-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S10000x1x128 : Shape := ⟨3, ![10000, 1, 128]⟩
abbrev S10000x1x32x1x128 : Shape := ⟨5, ![10000, 1, 32, 1, 128]⟩
abbrev S64x1x128 : Shape := ⟨3, ![64, 1, 128]⟩
abbrev S64 : Shape := ⟨1, ![64]⟩
abbrev S4 : Shape := ⟨1, ![4]⟩
abbrev S32x4x16 : Shape := ⟨3, ![32, 4, 16]⟩
abbrev S32 : Shape := ⟨1, ![32]⟩
abbrev S10x32 : Shape := ⟨2, ![10, 32]⟩
abbrev S10 : Shape := ⟨1, ![10]⟩
abbrev S10000x32x1x128 : Shape := ⟨4, ![10000, 32, 1, 128]⟩
abbrev S_ : Shape := ⟨0, ![]⟩
abbrev S10000x128x128 : Shape := ⟨3, ![10000, 128, 128]⟩
abbrev S10000x128 : Shape := ⟨2, ![10000, 128]⟩
abbrev S10000x64 : Shape := ⟨2, ![10000, 64]⟩
abbrev S1x64 : Shape := ⟨2, ![1, 64]⟩
abbrev S10000x4x16 : Shape := ⟨3, ![10000, 4, 16]⟩
abbrev S10000x32x64 : Shape := ⟨3, ![10000, 32, 64]⟩
abbrev S1x1x64 : Shape := ⟨3, ![1, 1, 64]⟩
abbrev S10000x32x4x16 : Shape := ⟨4, ![10000, 32, 4, 16]⟩
abbrev S4x1 : Shape := ⟨2, ![4, 1]⟩
abbrev S1x4x1 : Shape := ⟨3, ![1, 4, 1]⟩
abbrev S1x1x4x1 : Shape := ⟨4, ![1, 1, 4, 1]⟩
abbrev S10000x16x16 : Shape := ⟨3, ![10000, 16, 16]⟩

class Facts : Prop where
  shapeCasts_S10000x1x32x1x128_S10000x32x1x128 : S10000x1x32x1x128.ShapeCasts S10000x32x1x128
  reducesTo_S10000x32x1x128_S10000x1x128_d1 : S10000x32x1x128.ReducesTo [1] S10000x1x128
  h_S_ : 0 < S_.numel
  transposes_S10000x128x128_S10000x128x128_0_2_1 : S10000x128x128.Transposes [0, 2, 1] S10000x128x128
  reducesTo_S10000x128x128_S10000x128_d1 : S10000x128x128.ReducesTo [1] S10000x128
  bcast_S10000x128_S10000x1x128_0_2 : S10000x128.BroadcastsInDim S10000x1x128 (![0, 2] : Fin 2 → Fin S10000x1x128.rank)
  bcast_S_S10000x1x128 : S_.BroadcastsInDim S10000x1x128 (![] : Fin 0 → Fin S10000x1x128.rank)
  bcast_S10000x1x128_S10000x128x128_0_1_2 : S10000x1x128.BroadcastsInDim S10000x128x128 (![0, 1, 2] : Fin 3 → Fin S10000x128x128.rank)
  bcast_S_S10000x128x128 : S_.BroadcastsInDim S10000x128x128 (![] : Fin 0 → Fin S10000x128x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  shapeCasts_S10000x64_S10000x4x16 : S10000x64.ShapeCasts S10000x4x16
  bcast_S64_S1x1x64_2 : S64.BroadcastsInDim S1x1x64 (![2] : Fin 1 → Fin S1x1x64.rank)
  bcast_S1x1x64_S10000x32x64_0_1_2 : S1x1x64.BroadcastsInDim S10000x32x64 (![0, 1, 2] : Fin 3 → Fin S10000x32x64.rank)
  shapeCasts_S10000x32x64_S10000x32x4x16 : S10000x32x64.ShapeCasts S10000x32x4x16
  bcast_S_S10000x4x16 : S_.BroadcastsInDim S10000x4x16 (![] : Fin 0 → Fin S10000x4x16.rank)
  bcast_S4_S4x1_0 : S4.BroadcastsInDim S4x1 (![0] : Fin 1 → Fin S4x1.rank)
  bcast_S4x1_S1x4x1_1_2 : S4x1.BroadcastsInDim S1x4x1 (![1, 2] : Fin 2 → Fin S1x4x1.rank)
  bcast_S1x4x1_S10000x4x16_0_1_2 : S1x4x1.BroadcastsInDim S10000x4x16 (![0, 1, 2] : Fin 3 → Fin S10000x4x16.rank)
  bcast_S_S10000x32x4x16 : S_.BroadcastsInDim S10000x32x4x16 (![] : Fin 0 → Fin S10000x32x4x16.rank)
  bcast_S4x1_S1x1x4x1_2_3 : S4x1.BroadcastsInDim S1x1x4x1 (![2, 3] : Fin 2 → Fin S1x1x4x1.rank)
  bcast_S1x1x4x1_S10000x32x4x16_0_1_2_3 : S1x1x4x1.BroadcastsInDim S10000x32x4x16 (![0, 1, 2, 3] : Fin 4 → Fin S10000x32x4x16.rank)
  reducesTo_S10000x1x128_S_d0_1_2 : S10000x1x128.ReducesTo [0, 1, 2] S_
  bcast_S_S10000x1x32x1x128 : S_.BroadcastsInDim S10000x1x32x1x128 (![] : Fin 0 → Fin S10000x1x32x1x128.rank)
  reducesTo_S10000x1x32x1x128_S_d0_1_2_3_4 : S10000x1x32x1x128.ReducesTo [0, 1, 2, 3, 4] S_
  bcast_S_S64x1x128 : S_.BroadcastsInDim S64x1x128 (![] : Fin 0 → Fin S64x1x128.rank)
  reducesTo_S64x1x128_S_d0_1_2 : S64x1x128.ReducesTo [0, 1, 2] S_
  bcast_S_S4 : S_.BroadcastsInDim S4 (![] : Fin 0 → Fin S4.rank)
  reducesTo_S4_S_d0 : S4.ReducesTo [0] S_
  bcast_S_S32 : S_.BroadcastsInDim S32 (![] : Fin 0 → Fin S32.rank)
  reducesTo_S32_S_d0 : S32.ReducesTo [0] S_
  reducesTo_S10000x128x128_S_d0_1_2 : S10000x128x128.ReducesTo [0, 1, 2] S_
  reducesTo_S10000x32x4x16_S10000x4x16_d1 : S10000x32x4x16.ReducesTo [1] S10000x4x16
  transposes_S10000x16x16_S10000x16x16_0_2_1 : S10000x16x16.Transposes [0, 2, 1] S10000x16x16
  bcast_S_S10000x16x16 : S_.BroadcastsInDim S10000x16x16 (![] : Fin 0 → Fin S10000x16x16.rank)
  reducesTo_S10000x16x16_S_d0_1_2 : S10000x16x16.ReducesTo [0, 1, 2] S_
  dot_S10000x1x128_S10000x1x128_S10000x128x128_1_1_2_2_0_0_wf : DotDims.WF S10000x1x128 S10000x1x128 S10000x128x128 [1] [1] [2] [2] [0] [0]
  dot_S10000x1x128_S10000x128x128_S10000x1x128_2_1_1_2_0_0_wf : DotDims.WF S10000x1x128 S10000x128x128 S10000x1x128 [2] [1] [1] [2] [0] [0]
  dot_S10000x1x128_S64x1x128_S10000x64_12_12_0_0_n_n_wf : DotDims.WF S10000x1x128 S64x1x128 S10000x64 [1, 2] [1, 2] [0] [0] [] []
  dot_S10000x32x1x128_S10000x128x128_S10000x32x1x128_3_1_12_2_0_0_wf : DotDims.WF S10000x32x1x128 S10000x128x128 S10000x32x1x128 [3] [1] [1, 2] [2] [0] [0]
  dot_S10000x32x1x128_S64x1x128_S10000x32x64_23_12_01_0_n_n_wf : DotDims.WF S10000x32x1x128 S64x1x128 S10000x32x64 [2, 3] [1, 2] [0, 1] [0] [] []
  dot_S10000x4x16_S10000x4x16_S10000x16x16_1_1_2_2_0_0_wf : DotDims.WF S10000x4x16 S10000x4x16 S10000x16x16 [1] [1] [2] [2] [0] [0]

variable [Facts]

def dot_S10000x1x128_S10000x1x128_S10000x128x128_1_1_2_2_0_0 : DotDims S10000x1x128 S10000x1x128 S10000x128x128 where
  lhsContracting := [1]
  rhsContracting := [1]
  lhsNonContracting := [2]
  rhsNonContracting := [2]
  lhsBatch := [0]
  rhsBatch := [0]
  wf := dot_S10000x1x128_S10000x1x128_S10000x128x128_1_1_2_2_0_0_wf
def dot_S10000x1x128_S10000x128x128_S10000x1x128_2_1_1_2_0_0 : DotDims S10000x1x128 S10000x128x128 S10000x1x128 where
  lhsContracting := [2]
  rhsContracting := [1]
  lhsNonContracting := [1]
  rhsNonContracting := [2]
  lhsBatch := [0]
  rhsBatch := [0]
  wf := dot_S10000x1x128_S10000x128x128_S10000x1x128_2_1_1_2_0_0_wf
def dot_S10000x1x128_S64x1x128_S10000x64_12_12_0_0_n_n : DotDims S10000x1x128 S64x1x128 S10000x64 where
  lhsContracting := [1, 2]
  rhsContracting := [1, 2]
  lhsNonContracting := [0]
  rhsNonContracting := [0]
  lhsBatch := []
  rhsBatch := []
  wf := dot_S10000x1x128_S64x1x128_S10000x64_12_12_0_0_n_n_wf
def dot_S10000x32x1x128_S10000x128x128_S10000x32x1x128_3_1_12_2_0_0 : DotDims S10000x32x1x128 S10000x128x128 S10000x32x1x128 where
  lhsContracting := [3]
  rhsContracting := [1]
  lhsNonContracting := [1, 2]
  rhsNonContracting := [2]
  lhsBatch := [0]
  rhsBatch := [0]
  wf := dot_S10000x32x1x128_S10000x128x128_S10000x32x1x128_3_1_12_2_0_0_wf
def dot_S10000x32x1x128_S64x1x128_S10000x32x64_23_12_01_0_n_n : DotDims S10000x32x1x128 S64x1x128 S10000x32x64 where
  lhsContracting := [2, 3]
  rhsContracting := [1, 2]
  lhsNonContracting := [0, 1]
  rhsNonContracting := [0]
  lhsBatch := []
  rhsBatch := []
  wf := dot_S10000x32x1x128_S64x1x128_S10000x32x64_23_12_01_0_n_n_wf
def dot_S10000x4x16_S10000x4x16_S10000x16x16_1_1_2_2_0_0 : DotDims S10000x4x16 S10000x4x16 S10000x16x16 where
  lhsContracting := [1]
  rhsContracting := [1]
  lhsNonContracting := [2]
  rhsNonContracting := [2]
  lhsBatch := [0]
  rhsBatch := [0]
  wf := dot_S10000x4x16_S10000x4x16_S10000x16x16_1_1_2_2_0_0_wf
def fn_where {F : FTy → Type} [FloatOps F] (arg0 : IVec S10000x128x128 1) (arg1 : FVec F S_ .f32) (arg2 : FVec F S10000x128x128 .f32) : FVec F S10000x128x128 .f32 :=
  let v0 : FVec F S_ .f32 := id arg1
  let v1 : FVec F S10000x128x128 .f32 := broadcastInDim S10000x128x128 ![] bcast_S_S10000x128x128 v0
  let v2 : FVec F S10000x128x128 .f32 := select arg0 v1 arg2
  v2

def fn_part5 {F : FTy → Type} [FloatOps F] (main_v45 : FVec F S10000x4x16 .f32) (main_v61 : FVec F S10000x32x4x16 .f32) (main_v97 : IVec S_ 1) : IVec S_ 1 :=
  let main_cst_20 : FVec F S_ .f32 := constant S_ .f32 0x00000000#32
  let main_v98 : FVec F S10000x4x16 .f32 := (fun x v => Host.reduceAdd x v reducesTo_S10000x32x4x16_S10000x4x16_d1 h_S_) main_v61 main_cst_20
  let main_v99 : FVec F S10000x16x16 .f32 := (fun l r => Host.dotGeneral dot_S10000x4x16_S10000x4x16_S10000x16x16_1_1_2_2_0_0 none l r) main_v45 main_v98
  let main_v100 : FVec F S10000x16x16 .f32 := (transpose S10000x16x16 [0, 2, 1] · transposes_S10000x16x16_S10000x16x16_0_2_1) main_v99
  let main_v101 : FVec F S10000x16x16 .f32 := addf main_v99 main_v100
  let main_cst_21 : FVec F S_ .f32 := constant S_ .f32 0x00000000#32
  let main_v102 : FVec F S10000x16x16 .f32 := broadcastInDim S10000x16x16 ![] bcast_S_S10000x16x16 main_cst_21
  let main_v103 : IVec S10000x16x16 1 := cmpf .oeq main_v101 main_v102
  let main_v104 : FVec F S10000x16x16 .f32 := Host.absf main_v101
  let main_cst_22 : FVec F S_ .f32 := constant S_ .f32 0x0DA24260#32
  let main_v105 : FVec F S10000x16x16 .f32 := broadcastInDim S10000x16x16 ![] bcast_S_S10000x16x16 main_cst_22
  let main_v106 : IVec S10000x16x16 1 := cmpf .oge main_v104 main_v105
  let main_v107 : IVec S10000x16x16 1 := ori main_v103 main_v106
  let main_c_23 : IVec S_ 1 := constantI S_ 1 1#1
  let main_v108 : IVec S_ 1 := (fun x v => Host.reduce IntOp.andi x v reducesTo_S10000x16x16_S_d0_1_2 h_S_) main_v107 main_c_23
  let main_v109 : IVec S_ 1 := andi main_v97 main_v108
  main_v109

def fn_part4 {F : FTy → Type} [FloatOps F] (main_arg0 : FVec F S10000x1x128 .f32) (main_arg8 : FVec F S32 .f32) (main_v0 : FVec F S10000x32x1x128 .f32) (main_v45 : FVec F S10000x4x16 .f32) (main_v61 : FVec F S10000x32x4x16 .f32) (main_v75 : IVec S_ 1) (main_v79 : IVec S_ 1) : IVec S_ 1 :=
  let main_v80 : IVec S_ 1 := andi main_v75 main_v79
  let main_v81 : FVec F S32 .f32 := Host.absf main_arg8
  let main_cst_14 : FVec F S_ .f32 := constant S_ .f32 0x7F800000#32
  let main_v82 : FVec F S32 .f32 := broadcastInDim S32 ![] bcast_S_S32 main_cst_14
  let main_v83 : IVec S32 1 := cmpf .olt main_v81 main_v82
  let main_c_15 : IVec S_ 1 := constantI S_ 1 1#1
  let main_v84 : IVec S_ 1 := (fun x v => Host.reduce IntOp.andi x v reducesTo_S32_S_d0 h_S_) main_v83 main_c_15
  let main_v85 : IVec S_ 1 := andi main_v80 main_v84
  let main_cst_16 : FVec F S_ .f32 := constant S_ .f32 0x00000000#32
  let main_v86 : FVec F S10000x1x128 .f32 := (fun x v => Host.reduceAdd x v reducesTo_S10000x32x1x128_S10000x1x128_d1 h_S_) main_v0 main_cst_16
  let main_v87 : FVec F S10000x128x128 .f32 := (fun l r => Host.dotGeneral dot_S10000x1x128_S10000x1x128_S10000x128x128_1_1_2_2_0_0 none l r) main_arg0 main_v86
  let main_v88 : FVec F S10000x128x128 .f32 := (transpose S10000x128x128 [0, 2, 1] · transposes_S10000x128x128_S10000x128x128_0_2_1) main_v87
  let main_v89 : FVec F S10000x128x128 .f32 := addf main_v87 main_v88
  let main_cst_17 : FVec F S_ .f32 := constant S_ .f32 0x00000000#32
  let main_v90 : FVec F S10000x128x128 .f32 := broadcastInDim S10000x128x128 ![] bcast_S_S10000x128x128 main_cst_17
  let main_v91 : IVec S10000x128x128 1 := cmpf .oeq main_v89 main_v90
  let main_v92 : FVec F S10000x128x128 .f32 := Host.absf main_v89
  let main_cst_18 : FVec F S_ .f32 := constant S_ .f32 0x0DA24260#32
  let main_v93 : FVec F S10000x128x128 .f32 := broadcastInDim S10000x128x128 ![] bcast_S_S10000x128x128 main_cst_18
  let main_v94 : IVec S10000x128x128 1 := cmpf .oge main_v92 main_v93
  let main_v95 : IVec S10000x128x128 1 := ori main_v91 main_v94
  let main_c_19 : IVec S_ 1 := constantI S_ 1 1#1
  let main_v96 : IVec S_ 1 := (fun x v => Host.reduce IntOp.andi x v reducesTo_S10000x128x128_S_d0_1_2 h_S_) main_v95 main_c_19
  let main_v97 : IVec S_ 1 := andi main_v85 main_v96
  fn_part5 (F := F) main_v45 main_v61 main_v97

def fn_part3 {F : FTy → Type} [FloatOps F] (main_arg0 : FVec F S10000x1x128 .f32) (main_arg1 : FVec F S10000x1x32x1x128 .f32) (main_arg2 : FVec F S64x1x128 .f32) (main_arg4 : FVec F S4 .f32) (main_arg8 : FVec F S32 .f32) (main_v0 : FVec F S10000x32x1x128 .f32) (main_v45 : FVec F S10000x4x16 .f32) (main_v61 : FVec F S10000x32x4x16 .f32) (main_v62 : FVec F S10000x1x128 .f32) (main_cst_7 : FVec F S_ .f32) : IVec S_ 1 :=
  let main_v63 : FVec F S10000x1x128 .f32 := broadcastInDim S10000x1x128 ![] bcast_S_S10000x1x128 main_cst_7
  let main_v64 : IVec S10000x1x128 1 := cmpf .olt main_v62 main_v63
  let main_c : IVec S_ 1 := constantI S_ 1 1#1
  let main_v65 : IVec S_ 1 := (fun x v => Host.reduce IntOp.andi x v reducesTo_S10000x1x128_S_d0_1_2 h_S_) main_v64 main_c
  let main_v66 : FVec F S10000x1x32x1x128 .f32 := Host.absf main_arg1
  let main_cst_8 : FVec F S_ .f32 := constant S_ .f32 0x7F800000#32
  let main_v67 : FVec F S10000x1x32x1x128 .f32 := broadcastInDim S10000x1x32x1x128 ![] bcast_S_S10000x1x32x1x128 main_cst_8
  let main_v68 : IVec S10000x1x32x1x128 1 := cmpf .olt main_v66 main_v67
  let main_c_9 : IVec S_ 1 := constantI S_ 1 1#1
  let main_v69 : IVec S_ 1 := (fun x v => Host.reduce IntOp.andi x v reducesTo_S10000x1x32x1x128_S_d0_1_2_3_4 h_S_) main_v68 main_c_9
  let main_v70 : IVec S_ 1 := andi main_v65 main_v69
  let main_v71 : FVec F S64x1x128 .f32 := Host.absf main_arg2
  let main_cst_10 : FVec F S_ .f32 := constant S_ .f32 0x7F800000#32
  let main_v72 : FVec F S64x1x128 .f32 := broadcastInDim S64x1x128 ![] bcast_S_S64x1x128 main_cst_10
  let main_v73 : IVec S64x1x128 1 := cmpf .olt main_v71 main_v72
  let main_c_11 : IVec S_ 1 := constantI S_ 1 1#1
  let main_v74 : IVec S_ 1 := (fun x v => Host.reduce IntOp.andi x v reducesTo_S64x1x128_S_d0_1_2 h_S_) main_v73 main_c_11
  let main_v75 : IVec S_ 1 := andi main_v70 main_v74
  let main_v76 : FVec F S4 .f32 := Host.absf main_arg4
  let main_cst_12 : FVec F S_ .f32 := constant S_ .f32 0x7F800000#32
  let main_v77 : FVec F S4 .f32 := broadcastInDim S4 ![] bcast_S_S4 main_cst_12
  let main_v78 : IVec S4 1 := cmpf .olt main_v76 main_v77
  let main_c_13 : IVec S_ 1 := constantI S_ 1 1#1
  let main_v79 : IVec S_ 1 := (fun x v => Host.reduce IntOp.andi x v reducesTo_S4_S_d0 h_S_) main_v78 main_c_13
  fn_part4 (F := F) main_arg0 main_arg8 main_v0 main_v45 main_v61 main_v75 main_v79

def fn_part2 {F : FTy → Type} [FloatOps F] (main_arg0 : FVec F S10000x1x128 .f32) (main_arg1 : FVec F S10000x1x32x1x128 .f32) (main_arg2 : FVec F S64x1x128 .f32) (main_arg4 : FVec F S4 .f32) (main_arg5 : FVec F S4 .f32) (main_arg8 : FVec F S32 .f32) (main_v0 : FVec F S10000x32x1x128 .f32) (main_v29 : FVec F S10000x32x4x16 .f32) (main_v41 : FVec F S10000x4x16 .f32) (main_v42 : FVec F S10000x4x16 .f32) : IVec S_ 1 :=
  let main_cst_4 : FVec F S_ .f32 := constant S_ .f32 0x3F800000#32
  let main_v43 : FVec F S10000x4x16 .f32 := broadcastInDim S10000x4x16 ![] bcast_S_S10000x4x16 main_cst_4
  let main_v44 : FVec F S10000x4x16 .f32 := addf main_v43 main_v42
  let main_v45 : FVec F S10000x4x16 .f32 := Host.divf main_v41 main_v44
  let main_cst_5 : FVec F S_ .f32 := constant S_ .f32 0x3F800054#32
  let main_v46 : FVec F S_ .f32 := Host.sqrt main_cst_5
  let main_v47 : FVec F S_ .f32 := id main_v46
  let main_v48 : FVec F S10000x32x4x16 .f32 := broadcastInDim S10000x32x4x16 ![] bcast_S_S10000x32x4x16 main_v47
  let main_v49 : FVec F S10000x32x4x16 .f32 := Host.divf main_v29 main_v48
  let main_v50 : FVec F S4x1 .f32 := broadcastInDim S4x1 ![0] bcast_S4_S4x1_0 main_arg4
  let main_v51 : FVec F S1x1x4x1 .f32 := broadcastInDim S1x1x4x1 ![2, 3] bcast_S4x1_S1x1x4x1_2_3 main_v50
  let main_v52 : FVec F S10000x32x4x16 .f32 := broadcastInDim S10000x32x4x16 ![0, 1, 2, 3] bcast_S1x1x4x1_S10000x32x4x16_0_1_2_3 main_v51
  let main_v53 : FVec F S10000x32x4x16 .f32 := mulf main_v49 main_v52
  let main_v54 : FVec F S4x1 .f32 := broadcastInDim S4x1 ![0] bcast_S4_S4x1_0 main_arg5
  let main_v55 : FVec F S1x1x4x1 .f32 := broadcastInDim S1x1x4x1 ![2, 3] bcast_S4x1_S1x1x4x1_2_3 main_v54
  let main_v56 : FVec F S10000x32x4x16 .f32 := broadcastInDim S10000x32x4x16 ![0, 1, 2, 3] bcast_S1x1x4x1_S10000x32x4x16_0_1_2_3 main_v55
  let main_v57 : FVec F S10000x32x4x16 .f32 := addf main_v53 main_v56
  let main_v58 : FVec F S10000x32x4x16 .f32 := Host.absf main_v57
  let main_cst_6 : FVec F S_ .f32 := constant S_ .f32 0x3F800000#32
  let main_v59 : FVec F S10000x32x4x16 .f32 := broadcastInDim S10000x32x4x16 ![] bcast_S_S10000x32x4x16 main_cst_6
  let main_v60 : FVec F S10000x32x4x16 .f32 := addf main_v59 main_v58
  let main_v61 : FVec F S10000x32x4x16 .f32 := Host.divf main_v57 main_v60
  let main_v62 : FVec F S10000x1x128 .f32 := Host.absf main_arg0
  let main_cst_7 : FVec F S_ .f32 := constant S_ .f32 0x7F800000#32
  fn_part3 (F := F) main_arg0 main_arg1 main_arg2 main_arg4 main_arg8 main_v0 main_v45 main_v61 main_v62 main_cst_7

def fn_part1 {F : FTy → Type} [FloatOps F] (main_arg0 : FVec F S10000x1x128 .f32) (main_arg1 : FVec F S10000x1x32x1x128 .f32) (main_arg2 : FVec F S64x1x128 .f32) (main_arg3 : FVec F S64 .f32) (main_arg4 : FVec F S4 .f32) (main_arg5 : FVec F S4 .f32) (main_arg8 : FVec F S32 .f32) (main_v0 : FVec F S10000x32x1x128 .f32) (main_v17 : FVec F S10000x128x128 .f32) (main_v19 : FVec F S10000x64 .f32) : IVec S_ 1 :=
  let main_v20 : FVec F S1x64 .f32 := broadcastInDim S1x64 ![1] bcast_S64_S1x64_1 main_arg3
  let main_v21 : FVec F S10000x64 .f32 := broadcastInDim S10000x64 ![0, 1] bcast_S1x64_S10000x64_0_1 main_v20
  let main_v22 : FVec F S10000x64 .f32 := addf main_v19 main_v21
  let main_v23 : FVec F S10000x4x16 .f32 := shapeCast S10000x4x16 main_v22 shapeCasts_S10000x64_S10000x4x16
  let main_v24 : FVec F S10000x32x1x128 .f32 := (fun l r => Host.dotGeneral dot_S10000x32x1x128_S10000x128x128_S10000x32x1x128_3_1_12_2_0_0 none l r) main_v0 main_v17
  let main_v25 : FVec F S10000x32x64 .f32 := (fun l r => Host.dotGeneral dot_S10000x32x1x128_S64x1x128_S10000x32x64_23_12_01_0_n_n none l r) main_v24 main_arg2
  let main_v26 : FVec F S1x1x64 .f32 := broadcastInDim S1x1x64 ![2] bcast_S64_S1x1x64_2 main_arg3
  let main_v27 : FVec F S10000x32x64 .f32 := broadcastInDim S10000x32x64 ![0, 1, 2] bcast_S1x1x64_S10000x32x64_0_1_2 main_v26
  let main_v28 : FVec F S10000x32x64 .f32 := addf main_v25 main_v27
  let main_v29 : FVec F S10000x32x4x16 .f32 := shapeCast S10000x32x4x16 main_v28 shapeCasts_S10000x32x64_S10000x32x4x16
  let main_cst_3 : FVec F S_ .f32 := constant S_ .f32 0x3F800054#32
  let main_v30 : FVec F S_ .f32 := Host.sqrt main_cst_3
  let main_v31 : FVec F S_ .f32 := id main_v30
  let main_v32 : FVec F S10000x4x16 .f32 := broadcastInDim S10000x4x16 ![] bcast_S_S10000x4x16 main_v31
  let main_v33 : FVec F S10000x4x16 .f32 := Host.divf main_v23 main_v32
  let main_v34 : FVec F S4x1 .f32 := broadcastInDim S4x1 ![0] bcast_S4_S4x1_0 main_arg4
  let main_v35 : FVec F S1x4x1 .f32 := broadcastInDim S1x4x1 ![1, 2] bcast_S4x1_S1x4x1_1_2 main_v34
  let main_v36 : FVec F S10000x4x16 .f32 := broadcastInDim S10000x4x16 ![0, 1, 2] bcast_S1x4x1_S10000x4x16_0_1_2 main_v35
  let main_v37 : FVec F S10000x4x16 .f32 := mulf main_v33 main_v36
  let main_v38 : FVec F S4x1 .f32 := broadcastInDim S4x1 ![0] bcast_S4_S4x1_0 main_arg5
  let main_v39 : FVec F S1x4x1 .f32 := broadcastInDim S1x4x1 ![1, 2] bcast_S4x1_S1x4x1_1_2 main_v38
  let main_v40 : FVec F S10000x4x16 .f32 := broadcastInDim S10000x4x16 ![0, 1, 2] bcast_S1x4x1_S10000x4x16_0_1_2 main_v39
  let main_v41 : FVec F S10000x4x16 .f32 := addf main_v37 main_v40
  let main_v42 : FVec F S10000x4x16 .f32 := Host.absf main_v41
  fn_part2 (F := F) main_arg0 main_arg1 main_arg2 main_arg4 main_arg5 main_arg8 main_v0 main_v29 main_v41 main_v42

def fn {F : FTy → Type} [FloatOps F] (main_arg0 : FVec F S10000x1x128 .f32) (main_arg1 : FVec F S10000x1x32x1x128 .f32) (main_arg2 : FVec F S64x1x128 .f32) (main_arg3 : FVec F S64 .f32) (main_arg4 : FVec F S4 .f32) (main_arg5 : FVec F S4 .f32) (main_arg6 : FVec F S32x4x16 .f32) (main_arg7 : FVec F S32 .f32) (main_arg8 : FVec F S32 .f32) (main_arg9 : FVec F S32 .f32) (main_arg10 : FVec F S10x32 .f32) (main_arg11 : FVec F S10 .f32) : IVec S_ 1 :=
  let main_v0 : FVec F S10000x32x1x128 .f32 := shapeCast S10000x32x1x128 main_arg1 shapeCasts_S10000x1x32x1x128_S10000x32x1x128
  let main_cst : FVec F S_ .f32 := constant S_ .f32 0x00000000#32
  let main_v1 : FVec F S10000x1x128 .f32 := (fun x v => Host.reduceAdd x v reducesTo_S10000x32x1x128_S10000x1x128_d1 h_S_) main_v0 main_cst
  let main_v2 : FVec F S10000x128x128 .f32 := (fun l r => Host.dotGeneral dot_S10000x1x128_S10000x1x128_S10000x128x128_1_1_2_2_0_0 none l r) main_arg0 main_v1
  let main_v3 : FVec F S10000x128x128 .f32 := (transpose S10000x128x128 [0, 2, 1] · transposes_S10000x128x128_S10000x128x128_0_2_1) main_v2
  let main_v4 : FVec F S10000x128x128 .f32 := addf main_v2 main_v3
  let main_v5 : FVec F S10000x128x128 .f32 := Host.sign main_v4
  let main_v6 : FVec F S10000x128x128 .f32 := Host.absf main_v4
  let main_v7 : FVec F S10000x128x128 .f32 := Host.sqrt main_v6
  let main_v8 : FVec F S10000x128x128 .f32 := mulf main_v5 main_v7
  let main_v9 : FVec F S10000x128x128 .f32 := Host.absf main_v8
  let main_cst_0 : FVec F S_ .f32 := constant S_ .f32 0x00000000#32
  let main_v10 : FVec F S10000x128 .f32 := (fun x v => Host.reduceAdd x v reducesTo_S10000x128x128_S10000x128_d1 h_S_) main_v9 main_cst_0
  let main_v11 : FVec F S10000x1x128 .f32 := broadcastInDim S10000x1x128 ![0, 2] bcast_S10000x128_S10000x1x128_0_2 main_v10
  let main_cst_1 : FVec F S_ .f32 := constant S_ .f32 0x33D6BF95#32
  let main_v12 : FVec F S10000x1x128 .f32 := broadcastInDim S10000x1x128 ![] bcast_S_S10000x1x128 main_cst_1
  let main_v13 : FVec F S10000x1x128 .f32 := addf main_v11 main_v12
  let main_v14 : FVec F S10000x128x128 .f32 := broadcastInDim S10000x128x128 ![0, 1, 2] bcast_S10000x1x128_S10000x128x128_0_1_2 main_v13
  let main_v15 : FVec F S10000x128x128 .f32 := Host.divf main_v8 main_v14
  let main_v16 : IVec S10000x128x128 1 := cmpf .une main_v15 main_v15
  let main_cst_2 : FVec F S_ .f32 := constant S_ .f32 0x00000000#32
  let main_v17 : FVec F S10000x128x128 .f32 := fn_where (F := F) main_v16 main_cst_2 main_v15
  let main_v18 : FVec F S10000x1x128 .f32 := (fun l r => Host.dotGeneral dot_S10000x1x128_S10000x128x128_S10000x1x128_2_1_1_2_0_0 none l r) main_arg0 main_v17
  let main_v19 : FVec F S10000x64 .f32 := (fun l r => Host.dotGeneral dot_S10000x1x128_S64x1x128_S10000x64_12_12_0_0_n_n none l r) main_v18 main_arg2
  fn_part1 (F := F) main_arg0 main_arg1 main_arg2 main_arg3 main_arg4 main_arg5 main_arg8 main_v0 main_v17 main_v19
-- ==== Kernel.lean ====
abbrev S10000x1x128 : Shape := ⟨3, ![10000, 1, 128]⟩
abbrev S10000x1x32x1x128 : Shape := ⟨5, ![10000, 1, 32, 1, 128]⟩
abbrev S64x1x128 : Shape := ⟨3, ![64, 1, 128]⟩
abbrev S64 : Shape := ⟨1, ![64]⟩
abbrev S4 : Shape := ⟨1, ![4]⟩
abbrev S32x4x16 : Shape := ⟨3, ![32, 4, 16]⟩
abbrev S32 : Shape := ⟨1, ![32]⟩
abbrev S10x32 : Shape := ⟨2, ![10, 32]⟩
abbrev S10 : Shape := ⟨1, ![10]⟩
abbrev S10000x128 : Shape := ⟨2, ![10000, 128]⟩
abbrev S10000x32x128 : Shape := ⟨3, ![10000, 32, 128]⟩
abbrev S_ : Shape := ⟨0, ![]⟩
abbrev S64x128 : Shape := ⟨2, ![64, 128]⟩
abbrev S128x64 : Shape := ⟨2, ![128, 64]⟩
abbrev S4x16 : Shape := ⟨2, ![4, 16]⟩
abbrev S1x64 : Shape := ⟨2, ![1, 64]⟩
abbrev S32x64 : Shape := ⟨2, ![32, 64]⟩
abbrev S32x1 : Shape := ⟨2, ![32, 1]⟩
abbrev S10x1 : Shape := ⟨2, ![10, 1]⟩
abbrev S10x10000 : Shape := ⟨2, ![10, 10000]⟩
abbrev S10000x10 : Shape := ⟨2, ![10000, 10]⟩
abbrev S128x128 : Shape := ⟨2, ![128, 128]⟩
abbrev S128x32x128 : Shape := ⟨3, ![128, 32, 128]⟩
abbrev S10x128 : Shape := ⟨2, ![10, 128]⟩
abbrev S128x128x1 : Shape := ⟨3, ![128, 128, 1]⟩
abbrev S128x1x128 : Shape := ⟨3, ![128, 1, 128]⟩
abbrev S128x128x128 : Shape := ⟨3, ![128, 128, 128]⟩
abbrev S16384x128 : Shape := ⟨2, ![16384, 128]⟩
abbrev S16384x64 : Shape := ⟨2, ![16384, 64]⟩
abbrev S128x128x64 : Shape := ⟨3, ![128, 128, 64]⟩
abbrev S128x33x128 : Shape := ⟨3, ![128, 33, 128]⟩
abbrev S128x33x64 : Shape := ⟨3, ![128, 33, 64]⟩
abbrev S1x1x64 : Shape := ⟨3, ![1, 1, 64]⟩
abbrev S128x1x64 : Shape := ⟨3, ![128, 1, 64]⟩
abbrev S128x32x64 : Shape := ⟨3, ![128, 32, 64]⟩
abbrev S4x16x128 : Shape := ⟨3, ![4, 16, 128]⟩
abbrev S4x16x1x128 : Shape := ⟨4, ![4, 16, 1, 128]⟩
abbrev S4x1x16x128 : Shape := ⟨4, ![4, 1, 16, 128]⟩
abbrev S4x16x16x128 : Shape := ⟨4, ![4, 16, 16, 128]⟩
abbrev S16x16x128 : Shape := ⟨3, ![16, 16, 128]⟩
abbrev S16x128 : Shape := ⟨2, ![16, 128]⟩
abbrev S1x16x128 : Shape := ⟨3, ![1, 16, 128]⟩
abbrev S1x16x16x128 : Shape := ⟨4, ![1, 16, 16, 128]⟩
abbrev S32x128 : Shape := ⟨2, ![32, 128]⟩

abbrev nBuf : Space → Nat
  | .hbm => 49
  | .vmem => 14
  | .smem => 0
  | _ => 0

abbrev bufTy : (tb : Table) → Fin (tcTables nBuf tb) → BufTy
  | .hbm, ⟨0, _⟩ => ⟨S10000x1x128, .f32⟩
  | .hbm, ⟨1, _⟩ => ⟨S10000x1x32x1x128, .f32⟩
  | .hbm, ⟨2, _⟩ => ⟨S64x1x128, .f32⟩
  | .hbm, ⟨3, _⟩ => ⟨S64, .f32⟩
  | .hbm, ⟨4, _⟩ => ⟨S4, .f32⟩
  | .hbm, ⟨5, _⟩ => ⟨S4, .f32⟩
  | .hbm, ⟨6, _⟩ => ⟨S32x4x16, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S10x32, .f32⟩
  | .hbm, ⟨11, _⟩ => ⟨S10, .f32⟩
  | .hbm, ⟨12, _⟩ => ⟨S10000x128, .f32⟩
  | .hbm, ⟨13, _⟩ => ⟨S10000x32x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64x128, .f32⟩
  | .hbm, ⟨19, _⟩ => ⟨S128x64, .f32⟩
  | .hbm, ⟨20, _⟩ => ⟨S4x16, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S4x16, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S32x64, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32x1, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S32x1, .f32⟩
  | .hbm, ⟨45, _⟩ => ⟨S10x1, .f32⟩
  | .hbm, ⟨46, _⟩ => ⟨S10x1, .f32⟩
  | .hbm, ⟨47, _⟩ => ⟨S10x10000, .f32⟩
  | .hbm, ⟨48, _⟩ => ⟨S10000x10, .f32⟩
  | .local _ .vmem, ⟨0, _⟩ => ⟨S128x128, .f32⟩
  | .local _ .vmem, ⟨1, _⟩ => ⟨S128x128, .f32⟩
  | .local _ .vmem, ⟨2, _⟩ => ⟨S128x32x128, .f32⟩
  | .local _ .vmem, ⟨3, _⟩ => ⟨S128x32x128, .f32⟩
  | .local _ .vmem, ⟨4, _⟩ => ⟨S128x64, .f32⟩
  | .local _ .vmem, ⟨5, _⟩ => ⟨S1x64, .f32⟩
  | .local _ .vmem, ⟨6, _⟩ => ⟨S1x64, .f32⟩
  | .local _ .vmem, ⟨7, _⟩ => ⟨S32x64, .f32⟩
  | .local _ .vmem, ⟨8, _⟩ => ⟨S32x1, .f32⟩
  | .local _ .vmem, ⟨9, _⟩ => ⟨S32x1, .f32⟩
  | .local _ .vmem, ⟨10, _⟩ => ⟨S10x32, .f32⟩
  | .local _ .vmem, ⟨11, _⟩ => ⟨S10x1, .f32⟩
  | .local _ .vmem, ⟨12, _⟩ => ⟨S10x128, .f32⟩
  | .local _ .vmem, ⟨13, _⟩ => ⟨S10x128, .f32⟩
  | _, _ => ⟨S10000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_cst_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![79], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S10000x1x128 : Shape := ⟨3, ![10000, 1, 128]⟩
abbrev S10000x1x32x1x128 : Shape := ⟨5, ![10000, 1, 32, 1, 128]⟩
abbrev S64x1x128 : Shape := ⟨3, ![64, 1, 128]⟩
abbrev S64 : Shape := ⟨1, ![64]⟩
abbrev S4 : Shape := ⟨1, ![4]⟩
abbrev S32x4x16 : Shape := ⟨3, ![32, 4, 16]⟩
abbrev S32 : Shape := ⟨1, ![32]⟩
abbrev S10x32 : Shape := ⟨2, ![10, 32]⟩
abbrev S10 : Shape := ⟨1, ![10]⟩
abbrev S10000x32x1x128 : Shape := ⟨4, ![10000, 32, 1, 128]⟩
abbrev S_ : Shape := ⟨0, ![]⟩
abbrev S10000x128x128 : Shape := ⟨3, ![10000, 128, 128]⟩
abbrev S10000x128 : Shape := ⟨2, ![10000, 128]⟩
abbrev S10000x64 : Shape := ⟨2, ![10000, 64]⟩
abbrev S1x64 : Shape := ⟨2, ![1, 64]⟩
abbrev S10000x4x16 : Shape := ⟨3, ![10000, 4, 16]⟩
abbrev S10000x32x64 : Shape := ⟨3, ![10000, 32, 64]⟩
abbrev S1x1x64 : Shape := ⟨3, ![1, 1, 64]⟩
abbrev S10000x32x4x16 : Shape := ⟨4, ![10000, 32, 4, 16]⟩
abbrev S4x1 : Shape := ⟨2, ![4, 1]⟩
abbrev S1x4x1 : Shape := ⟨3, ![1, 4, 1]⟩
abbrev S1x1x4x1 : Shape := ⟨4, ![1, 1, 4, 1]⟩
abbrev S10000x16x16 : Shape := ⟨3, ![10000, 16, 16]⟩
abbrev S10000x16 : Shape := ⟨2, ![10000, 16]⟩
abbrev S10000x1x16 : Shape := ⟨3, ![10000, 1, 16]⟩
abbrev S10000x32 : Shape := ⟨2, ![10000, 32]⟩
abbrev S1x32 : Shape := ⟨2, ![1, 32]⟩
abbrev S10000x32x1 : Shape := ⟨3, ![10000, 32, 1]⟩
abbrev S32x1 : Shape := ⟨2, ![32, 1]⟩
abbrev S1x32x1 : Shape := ⟨3, ![1, 32, 1]⟩
abbrev S32x10 : Shape := ⟨2, ![32, 10]⟩
abbrev S10000x10 : Shape := ⟨2, ![10000, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S10000x1x128, .f32⟩
  | 1 => ⟨S10000x1x32x1x128, .f32⟩
  | 2 => ⟨S64x1x128, .f32⟩
  | 3 => ⟨S64, .f32⟩
  | 4 => ⟨S4, .f32⟩
  | 5 => ⟨S4, .f32⟩
  | 6 => ⟨S32x4x16, .f32⟩
  | 7 => ⟨S32, .f32⟩
  | 8 => ⟨S32, .f32⟩
  | 9 => ⟨S32, .f32⟩
  | 10 => ⟨S10x32, .f32⟩
  | 11 => ⟨S10, .f32⟩
  | 12 => ⟨S10000x32x1x128, .f32⟩
  | 13 => ⟨S_, .f32⟩
  | 14 => ⟨S10000x1x128, .f32⟩
  | 15 => ⟨S10000x128x128, .f32⟩
  | 16 => ⟨S10000x128x128, .f32⟩
  | 17 => ⟨S10000x128x128, .f32⟩
  | 18 => ⟨S10000x128x128, .f32⟩
  | 19 => ⟨S10000x128x128, .f32⟩
  | 20 => ⟨S10000x128x128, .f32⟩
  | 21 => ⟨S10000x128x128, .f32⟩
  | 22 => ⟨S10000x128x128, .f32⟩
  | 23 => ⟨S_, .f32⟩
  | 24 => ⟨S10000x128, .f32⟩
  | 25 => ⟨S10000x1x128, .f32⟩
  | 26 => ⟨S_, .f32⟩
  | 27 => ⟨S10000x1x128, .f32⟩
  | 28 => ⟨S10000x1x128, .f32⟩
  | 29 => ⟨S10000x128x128, .f32⟩
  | 30 => ⟨S10000x128x128, .f32⟩
  | 31 => ⟨S10000x128x128, .i1⟩
  | 32 => ⟨S_, .f32⟩
  | 33 => ⟨S_, .f32⟩
  | 34 => ⟨S10000x128x128, .f32⟩
  | 35 => ⟨S10000x128x128, .f32⟩
  | 36 => ⟨S10000x1x128, .f32⟩
  | 37 => ⟨S10000x64, .f32⟩
  | 38 => ⟨S1x64, .f32⟩
  | 39 => ⟨S10000x64, .f32⟩
  | 40 => ⟨S10000x64, .f32⟩
  | 41 => ⟨S10000x4x16, .f32⟩
  | 42 => ⟨S10000x32x1x128, .f32⟩
  | 43 => ⟨S10000x32x64, .f32⟩
  | 44 => ⟨S1x1x64, .f32⟩
  | 45 => ⟨S10000x32x64, .f32⟩
  | 46 => ⟨S10000x32x64, .f32⟩
  | 47 => ⟨S10000x32x4x16, .f32⟩
  | 48 => ⟨S_, .f32⟩
  | 49 => ⟨S_, .f32⟩
  | 50 => ⟨S_, .f32⟩
  | 51 => ⟨S10000x4x16, .f32⟩
  | 52 => ⟨S10000x4x16, .f32⟩
  | 53 => ⟨S4x1, .f32⟩
  | 54 => ⟨S1x4x1, .f32⟩
  | 55 => ⟨S10000x4x16, .f32⟩
  | 56 => ⟨S10000x4x16, .f32⟩
  | 57 => ⟨S4x1, .f32⟩
  | 58 => ⟨S1x4x1, .f32⟩
  | 59 => ⟨S10000x4x16, .f32⟩
  | 60 => ⟨S10000x4x16, .f32⟩
  | 61 => ⟨S10000x4x16, .f32⟩
  | 62 => ⟨S_, .f32⟩
  | 63 => ⟨S10000x4x16, .f32⟩
  | 64 => ⟨S10000x4x16, .f32⟩
  | 65 => ⟨S10000x4x16, .f32⟩
  | 66 => ⟨S_, .f32⟩
  | 67 => ⟨S_, .f32⟩
  | 68 => ⟨S_, .f32⟩
  | 69 => ⟨S10000x32x4x16, .f32⟩
  | 70 => ⟨S10000x32x4x16, .f32⟩
  | 71 => ⟨S4x1, .f32⟩
  | 72 => ⟨S1x1x4x1, .f32⟩
  | 73 => ⟨S10000x32x4x16, .f32⟩
  | 74 => ⟨S10000x32x4x16, .f32⟩
  | 75 => ⟨S4x1, .f32⟩
  | 76 => ⟨S1x1x4x1, .f32⟩
  | 77 => ⟨S10000x32x4x16, .f32⟩
  | 78 => ⟨S10000x32x4x16, .f32⟩
  | 79 => ⟨S10000x32x4x16, .f32⟩
  | 80 => ⟨S_, .f32⟩
  | 81 => ⟨S10000x32x4x16, .f32⟩
  | 82 => ⟨S10000x32x4x16, .f32⟩
  | 83 => ⟨S10000x32x4x16, .f32⟩
  | 84 => ⟨S_, .f32⟩
  | 85 => ⟨S10000x4x16, .f32⟩
  | 86 => ⟨S10000x16x16, .f32⟩
  | 87 => ⟨S10000x16x16, .f32⟩
  | 88 => ⟨S10000x16x16, .f32⟩
  | 89 => ⟨S10000x16x16, .f32⟩
  | 90 => ⟨S10000x16x16, .f32⟩
  | 91 => ⟨S10000x16x16, .f32⟩
  | 92 => ⟨S10000x16x16, .f32⟩
  | 93 => ⟨S10000x16x16, .f32⟩
  | 94 => ⟨S_, .f32⟩
  | 95 => ⟨S10000x16, .f32⟩
  | 96 => ⟨S10000x1x16, .f32⟩
  | 97 => ⟨S_, .f32⟩
  | 98 => ⟨S10000x1x16, .f32⟩
  | 99 => ⟨S10000x1x16, .f32⟩
  | 100 => ⟨S10000x16x16, .f32⟩
  | 101 => ⟨S10000x16x16, .f32⟩
  | 102 => ⟨S10000x16x16, .i1⟩
  | 103 => ⟨S_, .f32⟩
  | 104 => ⟨S_, .f32⟩
  | 105 => ⟨S10000x16x16, .f32⟩
  | 106 => ⟨S10000x16x16, .f32⟩
  | 107 => ⟨S10000x4x16, .f32⟩
  | 108 => ⟨S10000x32, .f32⟩
  | 109 => ⟨S1x32, .f32⟩
  | 110 => ⟨S10000x32, .f32⟩
  | 111 => ⟨S10000x32, .f32⟩
  | 112 => ⟨S10000x32x1, .f32⟩
  | 113 => ⟨S_, .f32⟩
  | 114 => ⟨S_, .f32⟩
  | 115 => ⟨S_, .f32⟩
  | 116 => ⟨S10000x32x1, .f32⟩
  | 117 => ⟨S10000x32x1, .f32⟩
  | 118 => ⟨S32x1, .f32⟩
  | 119 => ⟨S1x32x1, .f32⟩
  | 120 => ⟨S10000x32x1, .f32⟩
  | 121 => ⟨S10000x32x1, .f32⟩
  | 122 => ⟨S32x1, .f32⟩
  | 123 => ⟨S1x32x1, .f32⟩
  | 124 => ⟨S10000x32x1, .f32⟩
  | 125 => ⟨S10000x32x1, .f32⟩
  | 126 => ⟨S10000x32x1, .f32⟩
  | 127 => ⟨S_, .f32⟩
  | _ => ⟨S10000x1x128, .f32⟩

abbrev hbmTy0_1 (i : Nat) : BufTy := match i % 128 with
  | 0 => ⟨S10000x32x1, .f32⟩
  | 1 => ⟨S10000x32x1, .f32⟩
  | 2 => ⟨S10000x32x1, .f32⟩
  | 3 => ⟨S10000x32, .f32⟩
  | 4 => ⟨S32x10, .f32⟩
  | 5 => ⟨S10000x10, .f32⟩
  | 6 => ⟨S1x10, .f32⟩
  | 7 => ⟨S10000x10, .f32⟩
  | 8 => ⟨S10000x10, .f32⟩
  | _ => ⟨S10000x1x128, .f32⟩

abbrev hbmTy (i : Nat) : BufTy := match i / 128 with
  | 0 => hbmTy0_0 i
  | 1 => hbmTy0_1 i
  | _ => ⟨S10000x1x128, .f32⟩

abbrev bufTy : (tb : Table) → Fin (tcTables nBuf tb) → BufTy
  | .hbm, ⟨i, _⟩ => hbmTy i
  | _, _ => ⟨S10000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_8 : Ref sig .tc := ⟨.hbm, 94, rfl⟩
abbrev main_v71 : Ref sig .tc := ⟨.hbm, 95, rfl⟩
abbrev main_v72 : Ref sig .tc := ⟨.hbm, 96, rfl⟩
abbrev main_cst_9 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_10 : Ref sig .tc := ⟨.hbm, 103, rfl⟩
abbrev main_call1_v0 : Ref sig .tc := ⟨.hbm, 104, rfl⟩
abbrev main_call1_v1 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_11 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_12 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩

abbrev nD : Nat := 1
abbrev τ : Topo := Topo.v7x

variable {F : FTy → Type} [FloatOps F]
-- ==== Proof.KiBody.lean ====
/- The kernel body of `KernelIdeal` on any staging buffers: ten whole loads, a dead load of the result's buffer, one
   whole store; the result's buffer ends holding the payload of what the ten input buffers hold. -/
module

public import proofs.«01_k».proof.Proof.Gen.KernelIdeal.Frame
public import proofs.«01_k».proof.Proof.Gen.KernelIdeal.Skeleton
public import Idealize.ShloMosaic.Lib.Tactic
public import Idealize.ShloMosaic.Lib.VecWindow

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- What the body stores, from what it loads. -/
def pay (x : Vec F S128x128 .f32) (nb : Vec F S128x32x128 .f32) (w1 : Vec F S128x64 .f32) (g1 b1 : Vec F S1x64 .f32)
    (w2 : Vec F S32x64 .f32) (g2 b2 : Vec F S32x1 .f32) (wc : Vec F S10x32 .f32) (bc : Vec F S10x1 .f32) : Vec F S10x128 .f32 :=
  k0_pay1 (k0_pay3 (k0_pay2 x nb w1 g1) b1) w2 g2 b2 wc bc

/-- The stored payload read at what the ten loads return. -/
theorem pay_congr {x x' : Vec F S128x128 .f32} {nb nb' : Vec F S128x32x128 .f32} {w1 w1' : Vec F S128x64 .f32} {g1 g1' b1 b1' : Vec F S1x64 .f32}
    {w2 w2' : Vec F S32x64 .f32} {g2 g2' b2 b2' : Vec F S32x1 .f32} {wc wc' : Vec F S10x32 .f32} {bc bc' : Vec F S10x1 .f32}
    (r0 : x = x') (r1 : nb = nb') (r2 : w1 = w1') (r3 : g1 = g1') (r4 : b1 = b1') (r5 : w2 = w2') (r6 : g2 = g2') (r7 : b2 = b2')
    (r8 : wc = wc') (r9 : bc = bc') :
    k0_pay1 (k0_pay3 (k0_pay2 x nb w1 g1) b1) w2 g2 b2 wc bc = pay x' nb' w1' g1' b1' w2' g2' b2' wc' bc' := by
  subst r0 r1 r2 r3 r4 r5 r6 r7 r8 r9; rfl

/-- The body's triple, on any whole buffers. -/
theorem sound_body (c : Dev nD) (E : Set ℕ) (i : grid0.Coords)
    (M0 : Memref sig .tc .vmem S128x128 .f32) (h0 : M0.IsWhole) (M1 : Memref sig .tc .vmem S128x32x128 .f32) (h1 : M1.IsWhole)
    (M2 : Memref sig .tc .vmem S128x64 .f32) (h2 : M2.IsWhole) (M3 : Memref sig .tc .vmem S1x64 .f32) (h3 : M3.IsWhole)
    (M4 : Memref sig .tc .vmem S1x64 .f32) (h4 : M4.IsWhole) (M5 : Memref sig .tc .vmem S32x64 .f32) (h5 : M5.IsWhole)
    (M6 : Memref sig .tc .vmem S32x1 .f32) (h6 : M6.IsWhole) (M7 : Memref sig .tc .vmem S32x1 .f32) (h7 : M7.IsWhole)
    (M8 : Memref sig .tc .vmem S10x32 .f32) (h8 : M8.IsWhole) (M9 : Memref sig .tc .vmem S10x1 .f32) (h9 : M9.IsWhole)
    (M10 : Memref sig .tc .vmem S10x128 .f32) (h10 : M10.IsWhole)
    (X0 : Vec F S128x128 .f32) (X1 : Vec F S128x32x128 .f32) (X2 : Vec F S128x64 .f32) (X3 X4 : Vec F S1x64 .f32)
    (X5 : Vec F S32x64 .f32) (X6 X7 : Vec F S32x1 .f32) (X8 : Vec F S10x32 .f32) (X9 : Vec F S10x1 .f32) (X10 : Vec F S10x128 .f32)
    (K : PUnit → sProp 𝕄) :
    iprop((owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5
            ∗ owns (c : Thread nD τ) M6 fullShare X6 ∗ owns (c : Thread nD τ) M7 fullShare X7 ∗ owns (c : Thread nD τ) M8 fullShare X8
            ∗ owns (c : Thread nD τ) M9 fullShare X9 ∗ owns (c : Thread nD τ) M10 fullShare X10)
          ∗ (iprop(owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5
            ∗ owns (c : Thread nD τ) M6 fullShare X6 ∗ owns (c : Thread nD τ) M7 fullShare X7 ∗ owns (c : Thread nD τ) M8 fullShare X8
            ∗ owns (c : Thread nD τ) M9 fullShare X9 ∗ owns (c : Thread nD τ) M10 fullShare (pay X0 X1 X2 X3 X4 X5 X6 X7 X8 X9)) -∗ K ⟨⟩))
      ⊢ wp frame (wpE (defs₀ (F := F)) Variants.none c none) E
          (cc0__ktrans_block i M0 h0 M1 h1 M2 h2 M3 h3 M4 h4 M5 h5 M6 h6 M7 h7 M8 h8 M9 h9 M10 h10) K := by
  rw [cc0__ktrans_block_eq_skeleton]; unfold cc0__ktrans_block_skel
  rw [k0_part1_eq_skeleton, k0_part2_eq_skeleton]; unfold k0_part1_skel k0_part2_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, Hk⟩
  sl_exec
  sl_step
  iapply Hk
  have r0 : M0.view.readAt (Elt F) (Rect.unit ![0, 0] S128x128.size inb_S128x128_S128x128_0_0).toLoadRect f0 = X0 := (View.readAt_full M0.view f0 inb_S128x128_S128x128_0_0).trans e0
  have r1 : M1.view.readAt (Elt F) (Rect.unit ![0, 0, 0] S128x32x128.size inb_S128x32x128_S128x32x128_0_0_0).toLoadRect f1 = X1 := (View.readAt_full M1.view f1 inb_S128x32x128_S128x32x128_0_0_0).trans e1
  have r2 : M2.view.readAt (Elt F) (Rect.unit ![0, 0] S128x64.size inb_S128x64_S128x64_0_0).toLoadRect f2 = X2 := (View.readAt_full M2.view f2 inb_S128x64_S128x64_0_0).trans e2
  have r3 : M3.view.readAt (Elt F) (Rect.unit ![0, 0] S1x64.size inb_S1x64_S1x64_0_0).toLoadRect f3 = X3 := (View.readAt_full M3.view f3 inb_S1x64_S1x64_0_0).trans e3
  have r4 : M4.view.readAt (Elt F) (Rect.unit ![0, 0] S1x64.size inb_S1x64_S1x64_0_0).toLoadRect f4 = X4 := (View.readAt_full M4.view f4 inb_S1x64_S1x64_0_0).trans e4
  have r5 : M5.view.readAt (Elt F) (Rect.unit ![0, 0] S32x64.size inb_S32x64_S32x64_0_0).toLoadRect f5 = X5 := (View.readAt_full M5.view f5 inb_S32x64_S32x64_0_0).trans e5
  have r6 : M6.view.readAt (Elt F) (Rect.unit ![0, 0] S32x1.size inb_S32x1_S32x1_0_0).toLoadRect f6 = X6 := (View.readAt_full M6.view f6 inb_S32x1_S32x1_0_0).trans e6
  have r7 : M7.view.readAt (Elt F) (Rect.unit ![0, 0] S32x1.size inb_S32x1_S32x1_0_0).toLoadRect f7 = X7 := (View.readAt_full M7.view f7 inb_S32x1_S32x1_0_0).trans e7
  have r8 : M8.view.readAt (Elt F) (Rect.unit ![0, 0] S10x32.size inb_S10x32_S10x32_0_0).toLoadRect f8 = X8 := (View.readAt_full M8.view f8 inb_S10x32_S10x32_0_0).trans e8
  have r9 : M9.view.readAt (Elt F) (Rect.unit ![0, 0] S10x1.size inb_S10x1_S10x1_0_0).toLoadRect f9 = X9 := (View.readAt_full M9.view f9 inb_S10x1_S10x1_0_0).trans e9
  rw [pay_congr r0 r1 r2 r3 r4 r5 r6 r7 r8 r9]
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  iexists M10.view.writes (Elt F) f10 [⟨Rect.unit ![0, 0] S10x128.size inb_S10x128_S10x128_0_0, pay X0 X1 X2 X3 X4 X5 X6 X7 X8 X9⟩]
  isplitr
  · ipureintro; exact View.read_writes_full M10.view f10 _ _ _
  iexact H10

/-! ## The proof data -/

variable (m : (ℓ : Loc nD τ sig) → Buf (Elt F) ℓ) (ρ : Dev nD → PrngReg)

/-- The node features' block at point `t`, filled out past the array's end with `d`. -/
def xfill (c : Dev nD) (t : Fin cfg0.N) (d : Vec F S128x128 .f32) : Vec F S128x128 .f32 :=
  win0_0.fill (grid0.coords t) d (iblk m c 0 t)
/-- The neighbours' block at point `t`, filled out likewise. -/
def nfill (c : Dev nD) (t : Fin cfg0.N) (d : Vec F S128x32x128 .f32) : Vec F S128x32x128 .f32 :=
  win0_1.fill (grid0.coords t) d (iblk m c 1 t)

/-- The body's payload at point `t` when the two cut blocks are filled out with `d0` and `d1`. -/
def payAt (c : Dev nD) (t : Fin cfg0.N) (d0 : Vec F S128x128 .f32) (d1 : Vec F S128x32x128 .f32) : Vec F S10x128 .f32 :=
  pay (xfill m c t d0) (nfill m c t d1) (iblk m c 2 t) (iblk m c 3 t) (iblk m c 4 t) (iblk m c 5 t) (iblk m c 6 t) (iblk m c 7 t)
    (iblk m c 8 t) (iblk m c 9 t)

/-- The zero words the proof data fill the cut blocks out with; nothing reads them. -/
def z0 : Vec F S128x128 .f32 := fun _ => Scalar.ofBits .f32 0#32
/-- The same, of the neighbours' shape. -/
def z1 : Vec F S128x32x128 .f32 := fun _ => Scalar.ofBits .f32 0#32

/-- The proof data: the arrays as the region finds them; after the body every input buffer holds its block and the
    result's buffer the payload of blocks filled out with zeros. -/
def dats (_ : Fin 1) (c : Dev nD) : Dat τ (Elt F) Unit ℕ (UR sig nD τ) ℕ cfg0 c where
  A w := V m c (Pipeline.arrRef spec0 w)
  after w t := match w with
    | ⟨0, _⟩ => xfill m c t z0
    | ⟨1, _⟩ => nfill m c t z1
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => payAt m c t z0 z1
  Φ _ := Pipeline.ΦA spec0 c
  q _ := fullShare
  owed _ := 0

/-- Before a point the features' window holds its block of the argument. -/
theorem before_0 (c : Dev nD) (t : Fin cfg0.N) (d) : (dats m 0 c).before (0 : Fin 11) t d = xfill m c t d := by
  unfold Dat.before; rw [if_pos (fetch0_0 t)]; rfl
/-- Before a point the neighbours' window holds its block of the argument. -/
theorem before_1 (c : Dev nD) (t : Fin cfg0.N) (d) : (dats m 0 c).before (1 : Fin 11) t d = nfill m c t d := by
  unfold Dat.before; rw [if_pos (fetch0_1 t)]; rfl

/-- The window whose contents the run may forget: the result's. -/
def forgets : Fin 11 → Bool
  | ⟨10, _⟩ => true
  | _ => false

/-- The body at a point, every buffer at what the run hands it. -/
theorem body_at (c : Dev nD) (t : Fin cfg0.N) (d0 : Vec F S128x128 .f32) (d1 : Vec F S128x32x128 .f32) (X10 : Vec F S10x128 .f32) (K : PUnit → sProp 𝕄) :
    iprop((owns (c : Thread nD τ) (st0_0 t) fullShare (xfill m c t d0) ∗ owns (c : Thread nD τ) (st0_1 t) fullShare (nfill m c t d1)
            ∗ owns (c : Thread nD τ) (st0_2 t) fullShare (iblk m c 2 t)
            ∗ owns (c : Thread nD τ) (st0_3 t) fullShare (iblk m c 3 t) ∗ owns (c : Thread nD τ) (st0_4 t) fullShare (iblk m c 4 t)
            ∗ owns (c : Thread nD τ) (st0_5 t) fullShare (iblk m c 5 t)
            ∗ owns (c : Thread nD τ) (st0_6 t) fullShare (iblk m c 6 t) ∗ owns (c : Thread nD τ) (st0_7 t) fullShare (iblk m c 7 t)
            ∗ owns (c : Thread nD τ) (st0_8 t) fullShare (iblk m c 8 t)
            ∗ owns (c : Thread nD τ) (st0_9 t) fullShare (iblk m c 9 t) ∗ owns (c : Thread nD τ) (st0_10 t) fullShare X10)
          ∗ (iprop(owns (c : Thread nD τ) (st0_0 t) fullShare (xfill m c t d0) ∗ owns (c : Thread nD τ) (st0_1 t) fullShare (nfill m c t d1)
            ∗ owns (c : Thread nD τ) (st0_2 t) fullShare (iblk m c 2 t)
            ∗ owns (c : Thread nD τ) (st0_3 t) fullShare (iblk m c 3 t) ∗ owns (c : Thread nD τ) (st0_4 t) fullShare (iblk m c 4 t)
            ∗ owns (c : Thread nD τ) (st0_5 t) fullShare (iblk m c 5 t)
            ∗ owns (c : Thread nD τ) (st0_6 t) fullShare (iblk m c 6 t) ∗ owns (c : Thread nD τ) (st0_7 t) fullShare (iblk m c 7 t)
            ∗ owns (c : Thread nD τ) (st0_8 t) fullShare (iblk m c 8 t)
            ∗ owns (c : Thread nD τ) (st0_9 t) fullShare (iblk m c 9 t)
            ∗ owns (c : Thread nD τ) (st0_10 t) fullShare (payAt m c t d0 d1)) -∗ K ⟨⟩))
      ⊢ wp frame (wpE (defs₀ (F := F)) Variants.none c none) Set.univ (defs₀ .tc cfg0.body (cfg0.bodyArgs t (cfg0.slots t))) K :=
  sound_body (F := F) c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6)) _ (hstage0_7 ((cfg0.slots t 7).cast nbuf0_7))
    _ (hstage0_8 ((cfg0.slots t 8).cast nbuf0_8)) _ (hstage0_9 ((cfg0.slots t 9).cast nbuf0_9)) _ (hstage0_10 ((cfg0.slots t 10).cast nbuf0_10))
    (xfill m c t d0) (nfill m c t d1) (iblk m c 2 t) (iblk m c 3 t) (iblk m c 4 t) (iblk m c 5 t) (iblk m c 6 t) (iblk m c 7 t) (iblk m c 8 t) (iblk m c 9 t) X10 K

/-- The part of the features' window inside the array is the block. -/
theorem cut_x (c : Dev nD) (t : Fin cfg0.N) (d) : win0_0.cut (grid0.coords t) (xfill m c t d) = iblk m c 0 t := win0_0.cut_fill _ _ _
/-- The part of the neighbours' window inside the array is the block. -/
theorem cut_n (c : Dev nD) (t : Fin cfg0.N) (d) : win0_1.cut (grid0.coords t) (nfill m c t d) = iblk m c 1 t := win0_1.cut_fill _ _ _

/-- What the obligation asks of the two cut windows' buffers: the rows inside the array. -/
theorem leave_0 (c : Dev nD) (t : Fin cfg0.N) (d0 : Vec F S128x128 .f32) :
    (owns (c : Thread nD τ) (st0_0 t) fullShare (xfill m c t d0) : sProp 𝕄)
      ⊢ iprop(∃ d, owns (c : Thread nD τ) (st0_0 t) fullShare ((cfg0.win 0).fill (cfg0.grid.coords t) d ((cfg0.win 0).cut (cfg0.grid.coords t) ((dats m 0 c).after 0 t)))) := by
  have h : (cfg0.win 0).cut (cfg0.grid.coords t) ((dats m 0 c).after 0 t) = iblk m c 0 t := cut_x m c t z0
  rw [h]
  iintro H; iexists d0; iexact H
/-- The neighbours' window is left as it was found, inside the array. -/
theorem leave_1 (c : Dev nD) (t : Fin cfg0.N) (d1 : Vec F S128x32x128 .f32) :
    (owns (c : Thread nD τ) (st0_1 t) fullShare (nfill m c t d1) : sProp 𝕄)
      ⊢ iprop(∃ d, owns (c : Thread nD τ) (st0_1 t) fullShare ((cfg0.win 1).fill (cfg0.grid.coords t) d ((cfg0.win 1).cut (cfg0.grid.coords t) ((dats m 0 c).after 1 t)))) := by
  have h : (cfg0.win 1).cut (cfg0.grid.coords t) ((dats m 0 c).after 1 t) = iblk m c 1 t := cut_n m c t z1
  rw [h]
  iintro H; iexists d1; iexact H

set_option maxHeartbeats 2000000 in
/-- The body obligation with the result's buffer forgotten. -/
theorem obligation_forget (c : Dev nD) : BodyObligationLoose (dats m 0 c) (defs₀ (F := F)) Variants.none () Set.univ forgets := fun t => by
  rw [bigSep_W0, bigSep_W0]
  simp only [show forgets 0 = false from rfl, show forgets 1 = false from rfl, show forgets 2 = false from rfl, show forgets 3 = false from rfl,
    show forgets 4 = false from rfl, show forgets 5 = false from rfl, show forgets 6 = false from rfl, show forgets 7 = false from rfl,
    show forgets 8 = false from rfl, show forgets 9 = false from rfl, show forgets 10 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5, before0_6_of m (dats m 0 c) rfl (fun _ => rfl) t d6,
    before0_7_of m (dats m 0 c) rfl (fun _ => rfl) t d7, before0_8_of m (dats m 0 c) rfl (fun _ => rfl) t d8, before0_9_of m (dats m 0 c) rfl (fun _ => rfl) t d9]
  iapply (body_at m c t d0 d1 d10 _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Ho]; · iexact Ho
  isplitl [H0]; · iapply (leave_0 m c t d0); iexact H0
  isplitl [H1]; · iapply (leave_1 m c t d1); iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- The host lines after the region write one buffer: the transposed result. -/
def T : Finset (Ref sig .tc) := {main_v0}

/-- The last host line touches only arrays of the program. -/
theorem sfx_T : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  by_contra h
  exact StableHlo.devRef_ne_of_ne (fun he => h (by rw [he]; decide)) hb

set_option backward.isDefEq.respectTransparency.types false in
/-- The frame run, nothing said of the result. -/
theorem run_forget : θ_run defs (onTc (τ := τ) (main (F := F))) (s₀ m ρ)
    (fun r => Pipeline.RDat.FramePostR (cfgs 0) (fun c => (dats m 0 c).toRForget forgets) T (V m) r ∧ r.2.sem = fun _ => 0) :=
  Pipeline.θ_run_frame_around_T_forget cfgs (dats m) (0 : Fin 1) launch0 defs₀ Variants.none forgets T m ρ main
    (hbody := obligation_forget m) (hshare := fun c => (dats m 0 c).share_full fun _ => rfl) (howed := fun _ _ => rfl)
    (V₀ := V0 m) (opss := [hostOps1]) (hsub := sfx_sub) (hfresh := sfx_fresh) (hkeep := sfx_keeps) (hT := sfx_T)
    (hmain := hmain m Variants.none) (hA := fun _ _ => rfl) (hΦ := fun _ _ => rfl) (Q' := _) (hQ' := fun _ h => h)

/-- The frame with every counter at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ ⟨h, hz⟩ => ⟨fun c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      (h.arr_in c 8 rfl).trans (V_main_arg10 m c),
      ((h c).2 main_arg11 (Finset.mem_sdiff.mpr ⟨Pipeline.mem_restRefs_of main_arg11 (by decide) (by decide), by decide⟩)).trans (V_main_arg11 m c)⟩, hz⟩) (run_forget m ρ)

end Cert.KernelIdeal.Body

end
-- ==== Proof.Rows.lean ====
/- One row of the layer over the extended reals, spelt twice — as the plain layer computes it and as the tiled kernel
   does — and the proof that the two agree where the row is tame: finite features, weights and scales, and no entry
   of a feature-adjacency matrix strictly between zero and the guard of the kernel's root. -/
module

public import Idealize.ShloMosaic.Lib.Pointwise

@[expose] public section

noncomputable section

namespace Cert.Rows

open Idealize.ShloMosaic

/-! ## The scalar functions -/

/-- The magnitude. -/
def ab (v : EReal) : EReal := FloatOps.absf (F := Ideal) (φ := .f32) v
/-- Softsign. -/
def soft (v : EReal) : EReal := Ideal.div v (1 + ab v)
/-- The signed square root, as the layer spells it. -/
def root (v : EReal) : EReal := Ideal.sign v * Ideal.sqrt (ab v)
/-- The guard of the kernel's root. -/
def guard : EReal := Ideal.ofBits FTy.f32 0x0DA24260#32
/-- The signed square root, as the kernel spells it. -/
def groot (v : EReal) : EReal := v * Ideal.rsqrt (max (ab v) guard)
/-- What is added to a column's mass before dividing by it. -/
def tiny : EReal := Ideal.ofBits FTy.f32 0x33D6BF95#32
/-- The batch norm's divisor. -/
def sq : EReal := Ideal.sqrt (Ideal.ofBits FTy.f32 0x3F800054#32)
/-- Its reciprocal. -/
def inv : EReal := Ideal.div 1 sq

/-- Feature `f` of channel `c` among the 64. -/
def cf (c : Fin 4) (f : Fin 16) : Fin 64 := ⟨c.val * 16 + f.val, by omega⟩
/-- The channel of one of the 64 features. -/
def ch (j : Fin 64) : Fin 4 := ⟨j.val / 16, by omega⟩
/-- Its feature within the channel. -/
def fe (j : Fin 64) : Fin 16 := ⟨j.val % 16, by omega⟩

/-- The channel of a joined index. -/
theorem ch_cf (c : Fin 4) (f : Fin 16) : ch (cf c f) = c := by ext; simp only [ch, cf]; omega
/-- The feature of a joined index. -/
theorem fe_cf (c : Fin 4) (f : Fin 16) : fe (cf c f) = f := by ext; simp only [fe, cf]; omega

/-! ## The row as the layer computes it -/

section Reference

/-- The first feature-adjacency entry: the node's features against its neighbours' sum, symmetrized. -/
def cr (x s : Fin 128 → EReal) (f g : Fin 128) : EReal := x f * s g + x g * s f
/-- The normalized root of a matrix, by columns. -/
def adj {n : ℕ} (c : Fin n → Fin n → EReal) (f g : Fin n) : EReal :=
  Ideal.div (root (c f g)) (∑ e, ab (root (c e g)) + tiny)
/-- The neighbours' sum. -/
def nsum (nb : Fin 32 → Fin 128 → EReal) (g : Fin 128) : EReal := ∑ d, nb d g

/-- A feature row through the adjacency, the first weights, the batch norm and softsign. -/
def feat (A : Fin 128 → Fin 128 → EReal) (W : Fin 64 → Fin 128 → EReal) (b : Fin 64 → EReal) (ga be : Fin 4 → EReal)
    (y : Fin 128 → EReal) (c : Fin 4) (f : Fin 16) : EReal :=
  soft (Ideal.div (∑ g, (∑ e, y e * A e g) * W (cf c f) g + b (cf c f)) sq * ga c + be c)

/-- The second feature-adjacency entry. -/
def cr2 (x1 n2 : Fin 4 → Fin 16 → EReal) (f g : Fin 16) : EReal := ∑ c, x1 c f * n2 c g + ∑ c, x1 c g * n2 c f

/-- The last hidden row. -/
def hid (x1 : Fin 4 → Fin 16 → EReal) (A : Fin 16 → Fin 16 → EReal) (W2 : Fin 32 → Fin 4 → Fin 16 → EReal)
    (b2 ga2 be2 : Fin 32 → EReal) (o : Fin 32) : EReal :=
  soft (Ideal.div (∑ c, ∑ g, (∑ e, x1 c e * A e g) * W2 o c g + b2 o) sq * ga2 o + be2 o)

/-- The classifier's row. -/
def cls (h : Fin 32 → EReal) (wc : Fin 10 → Fin 32 → EReal) (bc : Fin 10 → EReal) (o : Fin 10) : EReal :=
  ∑ k, h k * wc o k + bc o

end Reference

/-! ## The row as the kernel computes it -/

section Kernel

/-- The first feature-adjacency entry. -/
def kcr (x s : Fin 128 → EReal) (f g : Fin 128) : EReal := x f * s g + s f * x g
/-- The normalized root of a matrix, by columns, multiplying by the reciprocal of a column's mass. -/
def kadj {n : ℕ} (c : Fin n → Fin n → EReal) (f g : Fin n) : EReal :=
  groot (c f g) * Ideal.div 1 (∑ e, ab (groot (c e g)) + tiny)
/-- A feature row against the adjacency times the weights, scaled. -/
def klin (A : Fin 128 → Fin 128 → EReal) (w : Fin 128 → Fin 64 → EReal) (s : Fin 64 → EReal)
    (y : Fin 128 → EReal) (j : Fin 64) : EReal := (∑ e, y e * ∑ g, A e g * w g j) * s j
/-- The same, shifted and through softsign. -/
def kfeat (A : Fin 128 → Fin 128 → EReal) (w : Fin 128 → Fin 64 → EReal) (s t : Fin 64 → EReal)
    (y : Fin 128 → EReal) (j : Fin 64) : EReal := soft (klin A w s y j + t j)
/-- The second feature-adjacency entry. -/
def kcr2 (x1 n2 : Fin 64 → EReal) (f g : Fin 16) : EReal :=
  ∑ c, (x1 (cf c f) * n2 (cf c g) + n2 (cf c f) * x1 (cf c g))
/-- The second features through their adjacency. -/
def kxt2 (x1 n2 : Fin 64 → EReal) (c : Fin 4) (g : Fin 16) : EReal := ∑ e, x1 (cf c e) * kadj (kcr2 x1 n2) e g
/-- The last hidden row. -/
def khid (z : Fin 4 → Fin 16 → EReal) (w2 : Fin 32 → Fin 64 → EReal) (s t : Fin 32 → EReal) (o : Fin 32) : EReal :=
  soft ((∑ k, w2 o k * z (ch k) (fe k)) * s o + t o)
/-- The classifier's row. -/
def kcls (h : Fin 32 → EReal) (wc : Fin 10 → Fin 32 → EReal) (bc : Fin 10 → EReal) (o : Fin 10) : EReal :=
  ∑ k, wc o k * h k + bc o

/-- The kernel's row from the features, the neighbours and the ten prepared operands. -/
def krow (x : Fin 128 → EReal) (nb : Fin 32 → Fin 128 → EReal) (w : Fin 128 → Fin 64 → EReal) (s t : Fin 64 → EReal)
    (w2 : Fin 32 → Fin 64 → EReal) (s2 t2 : Fin 32 → EReal) (wc : Fin 10 → Fin 32 → EReal) (bc : Fin 10 → EReal) (o : Fin 10) : EReal :=
  kcls (khid (kxt2 (kfeat (kadj (kcr x (nsum nb))) w s t x)
    (fun j => ∑ d, kfeat (kadj (kcr x (nsum nb))) w s t (nb d) j)) w2 s2 t2) wc bc o

end Kernel

/-- The layer's row from the features, the neighbours and the arguments. -/
def rrow (x : Fin 128 → EReal) (nb : Fin 32 → Fin 128 → EReal) (W : Fin 64 → Fin 128 → EReal) (b : Fin 64 → EReal) (ga be : Fin 4 → EReal)
    (W2 : Fin 32 → Fin 4 → Fin 16 → EReal) (b2 ga2 be2 : Fin 32 → EReal) (wc : Fin 10 → Fin 32 → EReal) (bc : Fin 10 → EReal) (o : Fin 10) : EReal :=
  cls (hid (feat (adj (cr x (nsum nb))) W b ga be x)
    (adj (cr2 (feat (adj (cr x (nsum nb))) W b ga be x) (fun c f => ∑ d, feat (adj (cr x (nsum nb))) W b ga be (nb d) c f)))
    W2 b2 ga2 be2) wc bc o

/-! ## Real values -/

/-- A value that is a real number. -/
def Rl (v : EReal) : Prop := ∃ r : ℝ, v = (r : EReal)

/-- The magnitude of a real number. -/
theorem ab_coe (r : ℝ) : ab (r : EReal) = ((|r| : ℝ) : EReal) := by
  show max (r : EReal) (-(r : EReal)) = _
  rw [← EReal.coe_neg, abs_eq_max_neg]; exact (EReal.coe_strictMono.monotone.map_max).symm

/-- A sum of real numbers. -/
theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A sum of two real numbers is real. -/
theorem Rl.add {a b : EReal} (ha : Rl a) (hb : Rl b) : Rl (a + b) := by
  obtain ⟨r, rfl⟩ := ha; obtain ⟨s, rfl⟩ := hb; exact ⟨r + s, (EReal.coe_add r s).symm⟩
/-- A product of two real numbers is real. -/
theorem Rl.mul {a b : EReal} (ha : Rl a) (hb : Rl b) : Rl (a * b) := by
  obtain ⟨r, rfl⟩ := ha; obtain ⟨s, rfl⟩ := hb; exact ⟨r * s, (EReal.coe_mul r s).symm⟩
/-- A finite sum of real numbers is real. -/
theorem Rl.sum {ι : Type} {s : Finset ι} {f : ι → EReal} (h : ∀ i, Rl (f i)) : Rl (∑ i ∈ s, f i) := by
  choose g hg using h
  exact ⟨∑ i ∈ s, g i, by rw [← sum_coe]; exact Finset.sum_congr rfl fun i _ => hg i⟩

/-- A magnitude below infinity is a real number's. -/
theorem rl_of_ab {v : EReal} (h : ab v < ⊤) : Rl v := by
  have h' : max v (-v) < ⊤ := h
  induction v using EReal.rec with
  | bot => exact absurd h' (by simp)
  | coe r => exact ⟨r, rfl⟩
  | top => exact absurd h' (by simp)

/-- Softsign takes every value, infinite or not, to a real number. -/
theorem soft_coe (r : ℝ) : soft (r : EReal) = ((r * (1 / (1 + |r|)) : ℝ) : EReal) := by
  have h : (1 : EReal) + ((|r| : ℝ) : EReal) = ((1 + |r| : ℝ) : EReal) := by rw [EReal.coe_add, EReal.coe_one]
  rw [soft, ab_coe, h, Ideal.div_coe (by positivity), EReal.coe_mul]
/-- Softsign of plus infinity, in the extended reals' division. -/
theorem soft_top : soft ⊤ = 0 := by
  have h : (1 : EReal) + ab ⊤ = ⊤ := by
    show (1 : EReal) + max ⊤ (-⊤) = ⊤
    rw [max_eq_left le_top]; exact EReal.add_top_of_ne_bot (show (1 : EReal) ≠ ⊥ from EReal.coe_ne_bot 1)
  rw [soft, h, Ideal.div, if_neg EReal.top_ne_zero, EReal.inv_top, mul_zero]
/-- Softsign of minus infinity. -/
theorem soft_bot : soft ⊥ = 0 := by
  have h : (1 : EReal) + ab ⊥ = ⊤ := by
    show (1 : EReal) + max ⊥ (-⊥) = ⊤
    rw [EReal.neg_bot, max_eq_right bot_le]; exact EReal.add_top_of_ne_bot (show (1 : EReal) ≠ ⊥ from EReal.coe_ne_bot 1)
  rw [soft, h, Ideal.div, if_neg EReal.top_ne_zero, EReal.inv_top, mul_zero]
/-- Softsign is real at every value. -/
theorem rl_soft (v : EReal) : Rl (soft v) := by
  induction v using EReal.rec with
  | bot => exact ⟨0, by rw [soft_bot, EReal.coe_zero]⟩
  | coe r => exact ⟨_, soft_coe r⟩
  | top => exact ⟨0, by rw [soft_top, EReal.coe_zero]⟩

/-- The signed root of a real number. -/
theorem root_coe (r : ℝ) : root (r : EReal) = (((SignType.sign r : ℝ) * √|r| : ℝ) : EReal) := by
  rw [root, ab_coe, Ideal.sign_coe, Ideal.sqrt_coe, if_neg (not_lt.mpr (abs_nonneg r)), EReal.coe_mul]

/-! ## The constants -/

/-- A positive normal pattern is a positive real number. -/
theorem lit_pos (b : BitVec 32) (hs : (b.extractLsb' 31 1 == 1#1) = false) (h1 : (b.extractLsb' 23 8).toNat ≠ 255)
    (h0 : (b.extractLsb' 23 8).toNat ≠ 0) : ∃ r : ℝ, 0 < r ∧ Ideal.ofBits FTy.f32 b = (r : EReal) := by
  refine ⟨(1 : ℝ) * ((2 ^ 23 + (b.extractLsb' 0 23).toNat : ℕ) : ℝ) * (2 : ℝ) ^ (((b.extractLsb' 23 8).toNat : Int) - (2 ^ (8 - 1) - 1) - 23), by positivity, ?_⟩
  show Ideal.ieee 8 23 b = _
  unfold Ideal.ieee
  rw [if_neg (by simpa using h1), if_neg h0]
  simp only [show ((8 : ℕ) + 23) = 31 from rfl, hs, Bool.false_eq_true, if_false]
  push_cast
  rfl

/-- The small constant is a positive real number. -/
theorem tiny_eq : ∃ r : ℝ, 0 < r ∧ tiny = (r : EReal) := lit_pos _ (by decide) (by decide) (by decide)

/-- The batch norm's divisor is a positive real number. -/
theorem sq_eq : ∃ r : ℝ, 0 < r ∧ sq = (r : EReal) := by
  obtain ⟨r, hr, h⟩ := lit_pos 0x3F800054#32 (by decide) (by decide) (by decide)
  exact ⟨√r, Real.sqrt_pos.mpr hr, by rw [sq, h, Ideal.sqrt_coe, if_neg (not_lt.mpr hr.le)]⟩

/-- The guard is positive. -/
theorem guard_pos : 0 < guard := by
  obtain ⟨r, hr, h⟩ := lit_pos 0x0DA24260#32 (by decide) (by decide) (by decide)
  rw [guard, h]; exact_mod_cast hr

/-! ## The root, the normalized adjacency -/

/-- Off the guard's range the two spellings of the signed root agree. -/
theorem groot_eq {v : EReal} (hv : Rl v) (h : v = 0 ∨ guard ≤ ab v) : groot v = root v := by
  rcases h with rfl | h
  · rw [groot, root, zero_mul, ← EReal.coe_zero, Ideal.sign_coe]; simp
  · obtain ⟨r, rfl⟩ := hv
    have h0 : r ≠ 0 := by
      rintro rfl
      rw [ab_coe, abs_zero, EReal.coe_zero] at h
      exact absurd h (not_le.mpr guard_pos)
    have hp : 0 < |r| := abs_pos.mpr h0
    rw [groot, root_coe, max_eq_left h, ab_coe, Ideal.rsqrt_coe, if_neg (not_lt.mpr hp.le), if_neg hp.ne', ← EReal.coe_mul]
    congr 1
    have hs : √|r| * √|r| = |r| := Real.mul_self_sqrt hp.le
    have hq : √|r| ≠ 0 := (Real.sqrt_pos.mpr hp).ne'
    rw [← div_eq_mul_inv, div_eq_iff hq, mul_assoc, hs]
    rcases lt_or_gt_of_ne h0 with h1 | h1
    · rw [sign_neg h1, abs_of_neg h1]; simp
    · rw [sign_pos h1, abs_of_pos h1]; simp

/-- A column's mass plus the constant is a positive real number. -/
theorem mass_pos {n : ℕ} (c : Fin n → EReal) (hc : ∀ e, Rl (c e)) : ∃ r : ℝ, 0 < r ∧ ∑ e, ab (root (c e)) + tiny = (r : EReal) := by
  choose d hd using hc
  obtain ⟨t, ht, e⟩ := tiny_eq
  refine ⟨∑ e, abs ((SignType.sign (d e) : ℝ) * √(abs (d e))) + t, ?_, ?_⟩
  · have : 0 ≤ ∑ e, abs ((SignType.sign (d e) : ℝ) * √(abs (d e))) := Finset.sum_nonneg fun _ _ => abs_nonneg _
    linarith
  · rw [e, EReal.coe_add, ← sum_coe]
    congr 1
    exact Finset.sum_congr rfl fun e _ => by rw [hd, root_coe, ab_coe]

/-- The normalized root of a real matrix is real. -/
theorem rl_adj {n : ℕ} {c : Fin n → Fin n → EReal} (hc : ∀ f g, Rl (c f g)) (f g : Fin n) : Rl (adj c f g) := by
  obtain ⟨m, hm, e⟩ := mass_pos (fun e => c e g) fun e => hc e g
  obtain ⟨r, hr⟩ := hc f g
  rw [adj, e, Ideal.div_coe hm.ne', hr, root_coe]
  exact ⟨_, (EReal.coe_mul _ _).symm⟩

/-- The kernel's normalized root is the layer's, off the guard. -/
theorem kadj_eq {n : ℕ} {c : Fin n → Fin n → EReal} (hc : ∀ f g, Rl (c f g)) (h : ∀ f g, c f g = 0 ∨ guard ≤ ab (c f g)) :
    kadj c = adj c := by
  funext f g
  obtain ⟨m, hm, e⟩ := mass_pos (fun e => c e g) fun e => hc e g
  have hr : ∀ f g, groot (c f g) = root (c f g) := fun f g => groot_eq (hc f g) (h f g)
  simp only [kadj, adj, hr]
  rw [e, Ideal.div_coe hm.ne', Ideal.div_coe hm.ne', one_mul]

/-! ## The products -/

/-- A product of three real matrices, either way. -/
theorem assoc {m n : ℕ} {y : Fin m → EReal} {A : Fin m → Fin n → EReal} {w : Fin n → EReal} (hy : ∀ e, Rl (y e)) (hA : ∀ e g, Rl (A e g))
    (hw : ∀ g, Rl (w g)) : ∑ e, y e * ∑ g, A e g * w g = ∑ g, (∑ e, y e * A e g) * w g := by
  choose y' hy using hy
  choose A' hA using hA
  choose w' hw using hw
  simp only [hy, hA, hw, ← EReal.coe_mul, sum_coe]
  congr 1
  simp only [Finset.mul_sum, Finset.sum_mul]
  rw [Finset.sum_comm]
  simp only [mul_assoc]

/-- Softsign of a sum with an infinite first term is zero. -/
theorem soft_inf {a x : EReal} (h : a = ⊤ ∨ a = ⊥) : soft (a + x) = 0 := by
  rcases h with rfl | rfl
  · by_cases hx : x = ⊥
    · rw [hx, EReal.add_bot, soft_bot]
    · rw [EReal.top_add_of_ne_bot hx, soft_top]
  · rw [EReal.bot_add, soft_bot]

/-- Plus infinity times a nonzero real is infinite. -/
theorem top_mul {r : ℝ} (h : r ≠ 0) : (⊤ : EReal) * r = ⊤ ∨ (⊤ : EReal) * r = ⊥ := by
  rcases lt_or_gt_of_ne h with h | h
  · exact .inr (EReal.top_mul_coe_of_neg h)
  · exact .inl (EReal.top_mul_coe_of_pos h)

/-- Minus infinity times a nonzero real is infinite. -/
theorem bot_mul {r : ℝ} (h : r ≠ 0) : (⊥ : EReal) * r = ⊤ ∨ (⊥ : EReal) * r = ⊥ := by
  rcases lt_or_gt_of_ne h with h | h
  · exact .inl (EReal.bot_mul_coe_of_neg h)
  · exact .inr (EReal.bot_mul_coe_of_pos h)

/-- Scaling a shifted value is scaling the value and the shift, as softsign sees it: where the sum of two infinities
    could tell the two apart, both sides are infinite and softsign takes both to zero. -/
theorem soft_fold (l b be : EReal) (r : ℝ) : soft ((l + b) * r + be) = soft (l * r + (b * r + be)) := by
  by_cases h : r = 0
  · subst h; simp
  have inf : ∀ a : EReal, (a = ⊤ ∨ a = ⊥) → ∀ x, soft (a * r + x) = 0 := fun a ha x =>
    soft_inf (by rcases ha with rfl | rfl; exacts [top_mul h, bot_mul h])
  by_cases hl : l = ⊤ ∨ l = ⊥
  · rw [inf l hl]
    refine inf _ ?_ _
    rcases hl with rfl | rfl
    · by_cases hb : b = ⊥
      · exact .inr (by rw [hb, EReal.add_bot])
      · exact .inl (EReal.top_add_of_ne_bot hb)
    · exact .inr (EReal.bot_add _)
  · have hl' : ∃ s : ℝ, l = s := by
      induction l using EReal.rec with
      | bot => exact absurd (.inr rfl) hl
      | coe s => exact ⟨s, rfl⟩
      | top => exact absurd (.inl rfl) hl
    obtain ⟨s, rfl⟩ := hl'
    induction b using EReal.rec with
    | bot => rw [EReal.add_bot, inf _ (.inr rfl), add_left_comm, inf _ (.inr rfl)]
    | coe t => rw [← EReal.coe_add, ← EReal.coe_mul, ← EReal.coe_mul, ← EReal.coe_mul, ← add_assoc, ← EReal.coe_add, add_mul]
    | top => rw [EReal.coe_add_top, inf _ (.inl rfl), add_left_comm, inf _ (.inl rfl)]

/-- The folded batch norm, through softsign. -/
theorem soft_bn (l b be ga : EReal) (hg : Rl ga) :
    soft (l * (ga * inv) + (b * inv * ga + be)) = soft (Ideal.div (l + b) sq * ga + be) := by
  obtain ⟨s, hs, e⟩ := sq_eq
  obtain ⟨g, rfl⟩ := hg
  rw [inv, e, Ideal.div_coe hs.ne', Ideal.div_coe hs.ne', one_mul, mul_assoc (l + b), mul_assoc b, mul_comm (g : EReal), ← EReal.coe_mul]
  exact (soft_fold l b be _).symm

/-- The 64 features as channels by features. -/
def pairs : Fin 4 × Fin 16 ≃ Fin 64 where
  toFun p := cf p.1 p.2
  invFun j := (ch j, fe j)
  left_inv p := by simp only [ch_cf, fe_cf]
  right_inv j := by ext; simp only [cf, ch, fe]; omega

/-- A sum over joined indices is the double sum. -/
theorem sum_pairs (F : Fin 4 → Fin 16 → EReal) : ∑ k, F (ch k) (fe k) = ∑ c, ∑ g, F c g := by
  rw [← pairs.sum_comp, Fintype.sum_prod_type]
  exact Finset.sum_congr rfl fun c _ => Finset.sum_congr rfl fun g _ => by
    show F (ch (cf c g)) (fe (cf c g)) = _
    rw [ch_cf, fe_cf]

/-! ## The two rows -/

section Rows

variable (x : Fin 128 → EReal) (nb : Fin 32 → Fin 128 → EReal) (W : Fin 64 → Fin 128 → EReal) (b : Fin 64 → EReal) (ga be : Fin 4 → EReal)
  (W2 : Fin 32 → Fin 4 → Fin 16 → EReal) (b2 ga2 be2 : Fin 32 → EReal) (wc : Fin 10 → Fin 32 → EReal) (bc : Fin 10 → EReal)

/-- The kernel's first matrix is the layer's. -/
theorem kcr_eq (s : Fin 128 → EReal) : kcr x s = cr x s := by
  funext f g; rw [kcr, cr, mul_comm (s f)]

/-- The first matrix of real rows is real. -/
theorem rl_cr {x s : Fin 128 → EReal} (hx : ∀ f, Rl (x f)) (hs : ∀ f, Rl (s f)) (f g : Fin 128) : Rl (cr x s f g) :=
  ((hx f).mul (hs g)).add ((hx g).mul (hs f))

/-- The first features: the kernel's, from operands folded as its host code folds them, are the layer's. -/
theorem kfeat_eq {A : Fin 128 → Fin 128 → EReal} {y : Fin 128 → EReal} (hy : ∀ f, Rl (y f)) (hA : ∀ f g, Rl (A f g)) (hW : ∀ j g, Rl (W j g))
    (hga : ∀ c, Rl (ga c)) (j : Fin 64) :
    kfeat A (fun g j => W j g) (fun j => ga (ch j) * inv) (fun j => b j * inv * ga (ch j) + be (ch j)) y j = feat A W b ga be y (ch j) (fe j) := by
  have hj : cf (ch j) (fe j) = j := by ext; simp only [cf, ch, fe]; omega
  rw [kfeat, klin, feat, hj, assoc hy hA (fun g => hW j g), soft_bn _ _ _ _ (hga _)]

/-- The kernel's second matrix is the layer's. -/
theorem kcr2_eq (u v : Fin 4 → Fin 16 → EReal) : kcr2 (fun j => u (ch j) (fe j)) (fun j => v (ch j) (fe j)) = cr2 u v := by
  funext f g
  simp only [kcr2, cr2, ch_cf, fe_cf]
  rw [Finset.sum_add_distrib]
  congr 1
  exact Finset.sum_congr rfl fun c _ => mul_comm _ _

/-- The second matrix of real features is real. -/
theorem rl_cr2 {u v : Fin 4 → Fin 16 → EReal} (hu : ∀ c f, Rl (u c f)) (hv : ∀ c f, Rl (v c f)) (f g : Fin 16) : Rl (cr2 u v f g) :=
  (Rl.sum fun c => (hu c f).mul (hv c g)).add (Rl.sum fun c => (hu c g).mul (hv c f))

/-- The kernel's row, its operands prepared from the arguments as its host code prepares them, is the layer's row. -/
theorem krow_eq (hx : ∀ f, Rl (x f)) (hnb : ∀ d f, Rl (nb d f)) (hW : ∀ j g, Rl (W j g)) (hga : ∀ c, Rl (ga c)) (hga2 : ∀ o, Rl (ga2 o))
    (h1 : ∀ f g, cr x (nsum nb) f g = 0 ∨ guard ≤ ab (cr x (nsum nb) f g))
    (h2 : ∀ f g, cr2 (feat (adj (cr x (nsum nb))) W b ga be x) (fun c f => ∑ d, feat (adj (cr x (nsum nb))) W b ga be (nb d) c f) f g = 0
      ∨ guard ≤ ab (cr2 (feat (adj (cr x (nsum nb))) W b ga be x) (fun c f => ∑ d, feat (adj (cr x (nsum nb))) W b ga be (nb d) c f) f g))
    (o : Fin 10) :
    krow x nb (fun g j => W j g) (fun j => ga (ch j) * inv) (fun j => b j * inv * ga (ch j) + be (ch j))
      (fun o k => W2 o (ch k) (fe k)) (fun o => ga2 o * inv) (fun o => b2 o * inv * ga2 o + be2 o) wc bc o
    = rrow x nb W b ga be W2 b2 ga2 be2 wc bc o := by
  have hs : ∀ g, Rl (nsum nb g) := fun g => Rl.sum fun d => hnb d g
  have hc := rl_cr hx hs
  have hA := rl_adj hc
  have e1 : kadj (kcr x (nsum nb)) = adj (cr x (nsum nb)) := by rw [kcr_eq]; exact kadj_eq hc h1
  unfold krow rrow
  rw [e1]
  set A := adj (cr x (nsum nb)) with hAe
  have f1 : kfeat A (fun g j => W j g) (fun j => ga (ch j) * inv) (fun j => b j * inv * ga (ch j) + be (ch j)) x
      = fun j => feat A W b ga be x (ch j) (fe j) := funext fun j => kfeat_eq W b ga be hx hA hW hga j
  have f2 : (fun j => ∑ d, kfeat A (fun g j => W j g) (fun j => ga (ch j) * inv) (fun j => b j * inv * ga (ch j) + be (ch j)) (nb d) j)
      = fun j => ∑ d, feat A W b ga be (nb d) (ch j) (fe j) :=
    funext fun j => Finset.sum_congr rfl fun d _ => kfeat_eq W b ga be (hnb d) hA hW hga j
  rw [f1, f2]
  set u := feat A W b ga be x with hu
  set v : Fin 4 → Fin 16 → EReal := fun c f => ∑ d, feat A W b ga be (nb d) c f with hv
  have ru : ∀ c f, Rl (u c f) := fun c f => rl_soft _
  have rv : ∀ c f, Rl (v c f) := fun c f => Rl.sum fun d => rl_soft _
  have e2 : kadj (kcr2 (fun j => u (ch j) (fe j)) (fun j => v (ch j) (fe j))) = adj (cr2 u v) := by
    rw [kcr2_eq]; exact kadj_eq (rl_cr2 ru rv) h2
  have e3 : kxt2 (fun j => u (ch j) (fe j)) (fun j => v (ch j) (fe j)) = fun c g => ∑ e, u c e * adj (cr2 u v) e g := by
    funext c g
    rw [kxt2, e2]
    simp only [ch_cf, fe_cf]
  show kcls (khid (kxt2 (fun j => u (ch j) (fe j)) (fun j => v (ch j) (fe j))) _ _ _) wc bc o = _
  rw [e3]
  have e4 : khid (fun c g => ∑ e, u c e * adj (cr2 u v) e g) (fun o k => W2 o (ch k) (fe k)) (fun o => ga2 o * inv) (fun o => b2 o * inv * ga2 o + be2 o)
      = hid u (adj (cr2 u v)) W2 b2 ga2 be2 := by
    funext o
    rw [khid, hid, soft_bn _ _ _ _ (hga2 o), sum_pairs (fun c g => W2 o c g * ∑ e, u c e * adj (cr2 u v) e g)]
    simp only [mul_comm (W2 o _ _)]
  rw [e4, kcls, cls]
  congr 1
  exact Finset.sum_congr rfl fun k _ => mul_comm _ _

end Rows

end Cert.Rows

end
-- ==== Proof.KiRow.lean ====
/- The kernel's stored block, read at an index: column `n` is the row function of the kernel applied to row `n` of the
   two tiled inputs, so a column never depends on another row. -/
module

public import proofs.«01_k».proof.Proof.KiBody
public import proofs.«01_k».proof.Proof.Rows

@[expose] public section

set_option maxRecDepth 16384

noncomputable section

namespace Cert.KernelIdeal.Body

open Cert.KernelIdeal Cert.KernelIdeal.Gen
open Idealize.ShloMosaic
open Cert.Rows

/-- The node's own features against the adjacency times the weights. -/
theorem pay2_at0 (x : Vec Ideal S128x128 .f32) (nb : Vec Ideal S128x32x128 .f32) (w1 : Vec Ideal S128x64 .f32) (g1 : Vec Ideal S1x64 .f32)
    (n : Fin 128) (j : Fin 64) : k0_pay2 (F := Ideal) x nb w1 g1 (ix3 n 0 j)
      = klin (kadj (kcr (fun f => x (ix2 n f)) (nsum fun d f => nb (ix3 n d f)))) (fun g j => w1 (ix2 g j)) (fun j => g1 (ix2 0 j)) (fun f => x (ix2 n f)) j := by
  pointwise [k0_pay2]
  rfl

/-- A neighbour's. -/
theorem pay2_at1 (x : Vec Ideal S128x128 .f32) (nb : Vec Ideal S128x32x128 .f32) (w1 : Vec Ideal S128x64 .f32) (g1 : Vec Ideal S1x64 .f32)
    (n : Fin 128) (d : Fin 32) (j : Fin 64) : k0_pay2 (F := Ideal) x nb w1 g1 (ix3 n (⟨1 + d.val, by omega⟩ : Fin 33) j)
      = klin (kadj (kcr (fun f => x (ix2 n f)) (nsum fun d f => nb (ix3 n d f)))) (fun g j => w1 (ix2 g j)) (fun j => g1 (ix2 0 j)) (fun f => nb (ix3 n d f)) j := by
  pointwise [k0_pay2]
  rfl

/-- The second features through the second adjacency. -/
theorem pay3_at (v : FVec Ideal S128x33x64 .f32) (b1 : Vec Ideal S1x64 .f32)
    (c : Fin 4) (g : Fin 16) (n : Fin 128) : k0_pay3 (F := Ideal) v b1 (ix3 c g n)
      = kxt2 (fun j => soft (v (ix3 n 0 j) + b1 (ix2 0 j))) (fun j => ∑ d : Fin 32, soft (v (ix3 n (⟨1 + d.val, by omega⟩ : Fin 33) j) + b1 (ix2 0 j))) c g := by
  pointwise [k0_pay3]
  rfl

/-- The hidden row and the classifier. -/
theorem pay1_at (v : FVec Ideal S4x16x128 .f32) (w2 : Vec Ideal S32x64 .f32) (g2 b2 : Vec Ideal S32x1 .f32) (wc : Vec Ideal S10x32 .f32) (bc : Vec Ideal S10x1 .f32)
    (o : Fin 10) (n : Fin 128) : k0_pay1 (F := Ideal) v w2 g2 b2 wc bc (ix2 o n)
      = kcls (khid (fun c g => v (ix3 c g n)) (fun o k => w2 (ix2 o k)) (fun o => g2 (ix2 o 0)) (fun o => b2 (ix2 o 0))) (fun o k => wc (ix2 o k)) (fun o => bc (ix2 o 0)) o := by
  pointwise [k0_pay1]
  rfl

/-- The stored block at an index. -/
theorem pay_at (x : Vec Ideal S128x128 .f32) (nb : Vec Ideal S128x32x128 .f32) (w1 : Vec Ideal S128x64 .f32) (g1 b1 : Vec Ideal S1x64 .f32)
    (w2 : Vec Ideal S32x64 .f32) (g2 b2 : Vec Ideal S32x1 .f32) (wc : Vec Ideal S10x32 .f32) (bc : Vec Ideal S10x1 .f32) (o : Fin 10) (n : Fin 128) :
    pay x nb w1 g1 b1 w2 g2 b2 wc bc (ix2 o n)
      = krow (fun f => x (ix2 n f)) (fun d f => nb (ix3 n d f)) (fun g j => w1 (ix2 g j)) (fun j => g1 (ix2 0 j)) (fun j => b1 (ix2 0 j))
          (fun o k => w2 (ix2 o k)) (fun o => g2 (ix2 o 0)) (fun o => b2 (ix2 o 0)) (fun o k => wc (ix2 o k)) (fun o => bc (ix2 o 0)) o := by
  unfold pay
  rw [pay1_at]
  simp only [pay3_at, pay2_at0, pay2_at1]
  rfl

end Cert.KernelIdeal.Body

end
-- ==== Proof.KiHost.lean ====
/- What the launch's host lines prepare: the region's ten input arrays, read at an index over the arguments. -/
module

public import proofs.«01_k».proof.Proof.Gen.KernelIdeal.Frame
public import proofs.«01_k».proof.Proof.Rows
public import Idealize.ShloMosaic.Lib.StableHlo.ReadAt
public import Idealize.ShloMosaic.Lib.IdealHost

@[expose] public section

set_option maxRecDepth 16384

noncomputable section

namespace Cert.KernelIdeal.Arg

open Cert.KernelIdeal Cert.KernelIdeal.Gen
open Idealize.ShloMosaic
open Idealize.ShloMosaic.TcCoe
open Cert.Rows

variable (m : (ℓ : Loc nD τ sig) → Buf (Elt Ideal) ℓ) (c : Dev nD)

/-- A node's features. -/
def X (n : Fin 10000) (f : Fin 128) : EReal := (m ((c : Thread nD τ).loc main_arg0) : S10000x1x128.Idx → EReal) (ix3 n 0 f)
/-- Its neighbours' features. -/
def N (n : Fin 10000) (d : Fin 32) (f : Fin 128) : EReal := (m ((c : Thread nD τ).loc main_arg1) : S10000x1x32x1x128.Idx → EReal) (ix5 n 0 d 0 f)
/-- The first weights. -/
def W (j : Fin 64) (g : Fin 128) : EReal := (m ((c : Thread nD τ).loc main_arg2) : S64x1x128.Idx → EReal) (ix3 j 0 g)
/-- The first bias. -/
def B (j : Fin 64) : EReal := (m ((c : Thread nD τ).loc main_arg3) : S64.Idx → EReal) (ix1 j)
/-- The first scale. -/
def G (k : Fin 4) : EReal := (m ((c : Thread nD τ).loc main_arg4) : S4.Idx → EReal) (ix1 k)
/-- The first shift. -/
def H (k : Fin 4) : EReal := (m ((c : Thread nD τ).loc main_arg5) : S4.Idx → EReal) (ix1 k)
/-- The second weights. -/
def W2 (o : Fin 32) (k : Fin 4) (g : Fin 16) : EReal := (m ((c : Thread nD τ).loc main_arg6) : S32x4x16.Idx → EReal) (ix3 o k g)
/-- The second bias. -/
def B2 (o : Fin 32) : EReal := (m ((c : Thread nD τ).loc main_arg7) : S32.Idx → EReal) (ix1 o)
/-- The second scale. -/
def G2 (o : Fin 32) : EReal := (m ((c : Thread nD τ).loc main_arg8) : S32.Idx → EReal) (ix1 o)
/-- The second shift. -/
def H2 (o : Fin 32) : EReal := (m ((c : Thread nD τ).loc main_arg9) : S32.Idx → EReal) (ix1 o)
/-- The classifier's weights. -/
def WC (o : Fin 10) (k : Fin 32) : EReal := (m ((c : Thread nD τ).loc main_arg10) : S10x32.Idx → EReal) (ix2 o k)
/-- The classifier's bias. -/
def BC (o : Fin 10) : EReal := (m ((c : Thread nD τ).loc main_arg11) : S10.Idx → EReal) (ix1 o)

/-- The divisor's reciprocal, as the host lines compute it. -/
theorem inv_host : id (Host.divf (F := Ideal) (φ := .f32) (constant S_ FTy.f32 1065353216#32) (Host.sqrt (constant S_ FTy.f32 1065353300#32))) ix0 = inv := by
  show Ideal.div (Ideal.ofBits FTy.f32 0x3F800000#32) sq = _
  rw [Ideal.ofBits_one_f32]; rfl

/-- The node features. -/
theorem feats_at (n : Fin 10000) (f : Fin 128) : (V m c main_call0_v0 : S10000x128.Idx → EReal) (ix2 n f) = (X m c n f : EReal) := by
  unfold V V0
  after_reads_at
  rfl
/-- The neighbours. -/
theorem neighs_at (n : Fin 10000) (d : Fin 32) (f : Fin 128) : (V m c main_call0_v1 : S10000x32x128.Idx → EReal) (ix3 n d f) = (N m c n d f : EReal) := by
  unfold V V0
  after_reads_at
  rfl
/-- The first weights, transposed. -/
theorem w1_at (g : Fin 128) (j : Fin 64) : (V m c main_call0_v5 : S128x64.Idx → EReal) (ix2 g j) = (W m c j g : EReal) := by
  unfold V V0
  after_reads_at
  rfl
/-- The first scale over the divisor. -/
theorem s1_at (j : Fin 64) : (V m c main_call0_v11 : S1x64.Idx → EReal) (ix2 0 j) = (G m c (ch j) * inv : EReal) := by
  unfold V V0
  after_reads_at
  rw [inv_host]
  rfl
/-- The first shift. -/
theorem t1_at (j : Fin 64) : (V m c main_call0_v19 : S1x64.Idx → EReal) (ix2 0 j) = (B m c j * inv * G m c (ch j) + H m c (ch j) : EReal) := by
  unfold V V0
  after_reads_at
  rw [inv_host]
  rfl
/-- The second weights. -/
theorem w2_at (o : Fin 32) (k : Fin 64) : (V m c main_call0_v20 : S32x64.Idx → EReal) (ix2 o k) = (W2 m c o (ch k) (fe k) : EReal) := by
  unfold V V0
  after_reads_at
  rfl
/-- The second scale over the divisor. -/
theorem s2_at (o : Fin 32) : (V m c main_call0_v24 : S32x1.Idx → EReal) (ix2 o 0) = (G2 m c o * inv : EReal) := by
  unfold V V0
  after_reads_at
  rw [inv_host]
  rfl
/-- The second shift. -/
theorem t2_at (o : Fin 32) : (V m c main_call0_v30 : S32x1.Idx → EReal) (ix2 o 0) = (B2 m c o * inv * G2 m c o + H2 m c o : EReal) := by
  unfold V V0
  after_reads_at
  rw [inv_host]
  rfl
/-- The classifier's weights. -/
theorem wc_at (o : Fin 10) (k : Fin 32) : (V m c main_arg10 : S10x32.Idx → EReal) (ix2 o k) = (WC m c o k : EReal) := by
  rw [V_main_arg10]; rfl
/-- The classifier's bias. -/
theorem bc_at (o : Fin 10) : (V m c main_call0_v32 : S10x1.Idx → EReal) (ix2 o 0) = (BC m c o : EReal) := by
  unfold V V0
  after_reads_at
  rfl

end Cert.KernelIdeal.Arg

end
-- ==== Proof.KiValue.lean ====
/- The value run of `KernelIdeal`: the result's array ends holding, column by column, the kernel's row function of the
   arguments; the last block's columns past the array's end are never written back and are nobody's. -/
module

public import proofs.«01_k».proof.Proof.KiRow
public import proofs.«01_k».proof.Proof.KiHost
public import Idealize.ShloMosaic.Lib.Pipeline.ValueKit

@[expose] public section

set_option maxRecDepth 16384

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)
open Cert.Rows

local notation "𝕄" => MT nD τ sig Unit (Elt Ideal) ℕ (UR sig nD τ) ℕ

variable (m : (ℓ : Loc nD τ sig) → Buf (Elt Ideal) ℓ) (ρ : Dev nD → PrngReg)

/-! ## The windows' index maps and cut sizes -/

/-- Which of the features' blocks a point reads. -/
theorem ix_0 : ∀ t : Fin cfg0.N, win0_0.index t = ![t.val, 0] := (by decide +kernel : ∀ t : Fin grid0.N, _)
/-- Which of the neighbours' blocks a point reads. -/
theorem ix_1 : ∀ t : Fin cfg0.N, win0_1.index t = ![t.val, 0, 0] := (by decide +kernel : ∀ t : Fin grid0.N, _)
/-- Which of the result's blocks a point writes. -/
theorem ix_10 : ∀ t : Fin cfg0.N, win0_10.index t = ![0, t.val] := (by decide +kernel : ∀ t : Fin grid0.N, _)
/-- How many feature rows of a block lie inside the array. -/
theorem xs_0 : ∀ t : Fin cfg0.N, win0_0.xsize (grid0.coords t) 0 = min 128 (10000 - t.val * 128) ∧ win0_0.xsize (grid0.coords t) 1 = 128 :=
  (by decide +kernel : ∀ t : Fin grid0.N, _)
/-- How many neighbour rows of a block lie inside the array. -/
theorem xs_1 : ∀ t : Fin cfg0.N, win0_1.xsize (grid0.coords t) 0 = min 128 (10000 - t.val * 128) ∧ win0_1.xsize (grid0.coords t) 1 = 32
    ∧ win0_1.xsize (grid0.coords t) 2 = 128 :=
  (by decide +kernel : ∀ t : Fin grid0.N, _)
/-- How many columns of the result's block lie inside its array. -/
theorem xs_10 : ∀ t : Fin cfg0.N, win0_10.xsize (grid0.coords t) 0 = 10 ∧ win0_10.xsize (grid0.coords t) 1 = min 128 (10000 - t.val * 128) :=
  (by decide +kernel : ∀ t : Fin grid0.N, _)

/-! ## The blocks at an index -/

/-- A row of the node features' block inside the array. -/
theorem xfill_at (c : Dev nD) (t : Fin cfg0.N) (d : Vec Ideal S128x128 .f32) (n f : Fin 128) (h : t.val * 128 + n.val < 10000) :
    xfill m c t d (ix2 n f) = (V m c main_call0_v0 : S10000x128.Idx → EReal) (ix2 ⟨t.val * 128 + n.val, h⟩ f) := by
  have hm : win0_0.moved (grid0.coords t) (ix2 n f) = true := (win0_0.moved_iff _ _).mpr fun a => by
    match a with
    | ⟨0, _⟩ => show n.val < win0_0.xsize (grid0.coords t) 0; rw [(xs_0 t).1]; have := n.isLt; omega
    | ⟨1, _⟩ => show f.val < win0_0.xsize (grid0.coords t) 1; rw [(xs_0 t).2]; exact f.isLt
  unfold xfill Window.fill
  rw [dif_pos hm]
  blk_ext [iblk, ix_0]

/-- A row of the neighbours' block inside the array. -/
theorem nfill_at (c : Dev nD) (t : Fin cfg0.N) (d : Vec Ideal S128x32x128 .f32) (n : Fin 128) (e : Fin 32) (f : Fin 128)
    (h : t.val * 128 + n.val < 10000) :
    nfill m c t d (ix3 n e f) = (V m c main_call0_v1 : S10000x32x128.Idx → EReal) (ix3 ⟨t.val * 128 + n.val, h⟩ e f) := by
  have hm : win0_1.moved (grid0.coords t) (ix3 n e f) = true := (win0_1.moved_iff _ _).mpr fun a => by
    match a with
    | ⟨0, _⟩ => show n.val < win0_1.xsize (grid0.coords t) 0; rw [(xs_1 t).1]; have := n.isLt; omega
    | ⟨1, _⟩ => show e.val < win0_1.xsize (grid0.coords t) 1; rw [(xs_1 t).2.1]; exact e.isLt
    | ⟨2, _⟩ => show f.val < win0_1.xsize (grid0.coords t) 2; rw [(xs_1 t).2.2]; exact f.isLt
  unfold nfill Window.fill
  rw [dif_pos hm]
  blk_ext [iblk, ix_1]

/-- The first weights' block at an index. -/
theorem i2_at (c : Dev nD) (t : Fin cfg0.N) (g : Fin 128) (j : Fin 64) : iblk m c 2 t (ix2 g j) = (V m c main_call0_v5 : S128x64.Idx → EReal) (ix2 g j) := by
  blk_ext [iblk, (by decide +kernel : ∀ t : Fin grid0.N, win0_2.index t = ![0, 0])]
/-- The first scale's block at an index. -/
theorem i3_at (c : Dev nD) (t : Fin cfg0.N) (j : Fin 64) : iblk m c 3 t (ix2 0 j) = (V m c main_call0_v11 : S1x64.Idx → EReal) (ix2 0 j) := by
  blk_ext [iblk, (by decide +kernel : ∀ t : Fin grid0.N, win0_3.index t = ![0, 0])]
/-- The first shift's block at an index. -/
theorem i4_at (c : Dev nD) (t : Fin cfg0.N) (j : Fin 64) : iblk m c 4 t (ix2 0 j) = (V m c main_call0_v19 : S1x64.Idx → EReal) (ix2 0 j) := by
  blk_ext [iblk, (by decide +kernel : ∀ t : Fin grid0.N, win0_4.index t = ![0, 0])]
/-- The second weights' block at an index. -/
theorem i5_at (c : Dev nD) (t : Fin cfg0.N) (o : Fin 32) (k : Fin 64) : iblk m c 5 t (ix2 o k) = (V m c main_call0_v20 : S32x64.Idx → EReal) (ix2 o k) := by
  blk_ext [iblk, (by decide +kernel : ∀ t : Fin grid0.N, win0_5.index t = ![0, 0])]
/-- The second scale's block at an index. -/
theorem i6_at (c : Dev nD) (t : Fin cfg0.N) (o : Fin 32) : iblk m c 6 t (ix2 o 0) = (V m c main_call0_v24 : S32x1.Idx → EReal) (ix2 o 0) := by
  blk_ext [iblk, (by decide +kernel : ∀ t : Fin grid0.N, win0_6.index t = ![0, 0])]
/-- The second shift's block at an index. -/
theorem i7_at (c : Dev nD) (t : Fin cfg0.N) (o : Fin 32) : iblk m c 7 t (ix2 o 0) = (V m c main_call0_v30 : S32x1.Idx → EReal) (ix2 o 0) := by
  blk_ext [iblk, (by decide +kernel : ∀ t : Fin grid0.N, win0_7.index t = ![0, 0])]
/-- The classifier weights' block at an index. -/
theorem i8_at (c : Dev nD) (t : Fin cfg0.N) (o : Fin 10) (k : Fin 32) : iblk m c 8 t (ix2 o k) = (V m c main_arg10 : S10x32.Idx → EReal) (ix2 o k) := by
  blk_ext [iblk, (by decide +kernel : ∀ t : Fin grid0.N, win0_8.index t = ![0, 0])]
/-- The classifier bias's block at an index. -/
theorem i9_at (c : Dev nD) (t : Fin cfg0.N) (o : Fin 10) : iblk m c 9 t (ix2 o 0) = (V m c main_call0_v32 : S10x1.Idx → EReal) (ix2 o 0) := by
  blk_ext [iblk, (by decide +kernel : ∀ t : Fin grid0.N, win0_9.index t = ![0, 0])]

/-- The kernel's row `n` over the arguments. -/
def row (c : Dev nD) (n : Fin 10000) (o : Fin 10) : EReal :=
  krow (Arg.X m c n) (Arg.N m c n) (fun g j => Arg.W m c j g) (fun j => Arg.G m c (ch j) * inv)
    (fun j => Arg.B m c j * inv * Arg.G m c (ch j) + Arg.H m c (ch j)) (fun o k => Arg.W2 m c o (ch k) (fe k))
    (fun o => Arg.G2 m c o * inv) (fun o => Arg.B2 m c o * inv * Arg.G2 m c o + Arg.H2 m c o) (Arg.WC m c) (Arg.BC m c) o

/-- Rows of equal operands are equal. -/
theorem krow_congr {x x' : Fin 128 → EReal} {nb nb' : Fin 32 → Fin 128 → EReal} {w w' : Fin 128 → Fin 64 → EReal} {s s' t t' : Fin 64 → EReal}
    {w2 w2' : Fin 32 → Fin 64 → EReal} {s2 s2' t2 t2' : Fin 32 → EReal} {wc wc' : Fin 10 → Fin 32 → EReal} {bc bc' : Fin 10 → EReal}
    (h0 : ∀ f, x f = x' f) (h1 : ∀ d f, nb d f = nb' d f) (h2 : ∀ g j, w g j = w' g j) (h3 : ∀ j, s j = s' j) (h4 : ∀ j, t j = t' j)
    (h5 : ∀ o k, w2 o k = w2' o k) (h6 : ∀ o, s2 o = s2' o) (h7 : ∀ o, t2 o = t2' o) (h8 : ∀ o k, wc o k = wc' o k) (h9 : ∀ o, bc o = bc' o)
    (o : Fin 10) : krow x nb w s t w2 s2 t2 wc bc o = krow x' nb' w' s' t' w2' s2' t2' wc' bc' o := by
  obtain rfl : x = x' := funext h0
  obtain rfl : nb = nb' := funext fun d => funext (h1 d)
  obtain rfl : w = w' := funext fun d => funext (h2 d)
  obtain rfl : s = s' := funext h3
  obtain rfl : t = t' := funext h4
  obtain rfl : w2 = w2' := funext fun d => funext (h5 d)
  obtain rfl : s2 = s2' := funext h6
  obtain rfl : t2 = t2' := funext h7
  obtain rfl : wc = wc' := funext fun d => funext (h8 d)
  obtain rfl : bc = bc' := funext h9
  rfl

/-- The stored block's column `n`, inside the array, whatever fills the two cut blocks out. -/
theorem payAt_at (c : Dev nD) (t : Fin cfg0.N) (d0 : Vec Ideal S128x128 .f32) (d1 : Vec Ideal S128x32x128 .f32) (o : Fin 10) (n : Fin 128)
    (h : t.val * 128 + n.val < 10000) : payAt m c t d0 d1 (ix2 o n) = row m c ⟨t.val * 128 + n.val, h⟩ o := by
  refine (pay_at (xfill m c t d0) (nfill m c t d1) (iblk m c 2 t) (iblk m c 3 t) (iblk m c 4 t) (iblk m c 5 t) (iblk m c 6 t) (iblk m c 7 t)
    (iblk m c 8 t) (iblk m c 9 t) o n).trans ?_
  exact krow_congr
    (fun f => (xfill_at m c t d0 n f h).trans (Arg.feats_at m c _ f))
    (fun e f => (nfill_at m c t d1 n e f h).trans (Arg.neighs_at m c _ e f))
    (fun g j => (i2_at m c t g j).trans (Arg.w1_at m c g j))
    (fun j => (i3_at m c t j).trans (Arg.s1_at m c j))
    (fun j => (i4_at m c t j).trans (Arg.t1_at m c j))
    (fun o k => (i5_at m c t o k).trans (Arg.w2_at m c o k))
    (fun o => (i6_at m c t o).trans (Arg.s2_at m c o))
    (fun o => (i7_at m c t o).trans (Arg.t2_at m c o))
    (fun o k => (i8_at m c t o k).trans (Arg.wc_at m c o k))
    (fun o => (i9_at m c t o).trans (Arg.bc_at m c o)) o

/-- The columns of the stored block that are written back, whatever fills the two cut blocks out. -/
theorem payAt_xinj (c : Dev nD) (t : Fin cfg0.N) (d0 : Vec Ideal S128x128 .f32) (d1 : Vec Ideal S128x32x128 .f32)
    (y : (win0_10.xblock (grid0.coords t)).Idx) (h : t.val * 128 + (y 1).val < 10000) :
    payAt m c t d0 d1 (win0_10.xinj (grid0.coords t) y)
      = row m c ⟨t.val * 128 + (y 1).val, h⟩ ⟨(y 0).val, (y 0).isLt.trans_le (win0_10.xsize_le (grid0.coords t) 0)⟩ := by
  rw [← payAt_at m c t d0 d1 _ ⟨(y 1).val, (y 1).isLt.trans_le (win0_10.xsize_le (grid0.coords t) 1)⟩ h]
  congr 1
  funext a
  match a with
  | ⟨0, _⟩ => rfl
  | ⟨1, _⟩ => rfl

/-- A column written back lies inside the array. -/
theorem y_lt (t : Fin cfg0.N) (y : (win0_10.xblock (grid0.coords t)).Idx) : t.val * 128 + (y 1).val < 10000 := by
  have h : (y 1).val < win0_10.xsize (grid0.coords t) 1 := (y 1).isLt
  rw [(xs_10 t).2] at h
  omega

/-- The part of the result's block that is written back depends on the nodes inside the array alone. -/
theorem cut_pay (c : Dev nD) (t : Fin cfg0.N) (d0 : Vec Ideal S128x128 .f32) (d1 : Vec Ideal S128x32x128 .f32) :
    win0_10.cut (grid0.coords t) (payAt m c t d0 d1) = win0_10.cut (grid0.coords t) (payAt m c t z0 z1) := by
  funext y
  show payAt m c t d0 d1 (win0_10.xinj (grid0.coords t) y) = payAt m c t z0 z1 (win0_10.xinj (grid0.coords t) y)
  rw [payAt_xinj m c t d0 d1 y (y_lt t y), payAt_xinj m c t z0 z1 y (y_lt t y)]

/-! ## The body's obligation, the run -/

/-- What the obligation asks of the result's buffer. -/
theorem leave_10 (c : Dev nD) (t : Fin cfg0.N) (d0 : Vec Ideal S128x128 .f32) (d1 : Vec Ideal S128x32x128 .f32) :
    (owns (c : Thread nD τ) (st0_10 t) fullShare (payAt m c t d0 d1) : sProp 𝕄)
      ⊢ iprop(∃ d, owns (c : Thread nD τ) (st0_10 t) fullShare ((cfg0.win 10).fill (cfg0.grid.coords t) d ((cfg0.win 10).cut (cfg0.grid.coords t) ((dats m 0 c).after 10 t)))) := by
  have h : (cfg0.win 10).fill (cfg0.grid.coords t) (payAt m c t d0 d1) ((cfg0.win 10).cut (cfg0.grid.coords t) ((dats m 0 c).after 10 t))
      = payAt m c t d0 d1 := win0_10.fill_congr_cut _ (cut_pay m c t d0 d1)
  iintro H; iexists (payAt m c t d0 d1); rw [h]; iexact H

set_option maxHeartbeats 2000000 in
/-- The body obligation. -/
theorem obligation (c : Dev nD) : BodyObligationLoose (dats m 0 c) (defs₀ (F := Ideal)) Variants.none () Set.univ := fun t => by
  rw [bigSep_W0, bigSep_W0]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5, before0_6_of m (dats m 0 c) rfl (fun _ => rfl) t d6,
    before0_7_of m (dats m 0 c) rfl (fun _ => rfl) t d7, before0_8_of m (dats m 0 c) rfl (fun _ => rfl) t d8, before0_9_of m (dats m 0 c) rfl (fun _ => rfl) t d9]
  iapply (body_at m c t d0 d1 ((dats m 0 c).before 10 t d10) _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Ho]; · iexact Ho
  isplitl [H0]; · iapply (leave_0 m c t d0); iexact H0
  isplitl [H1]; · iapply (leave_1 m c t d1); iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leave_10 m c t d0 d1); iexact H10

set_option backward.isDefEq.respectTransparency.types false in
/-- The run: every array as the proof data compute it. -/
theorem run_value : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl) (Q' := _) (hQ' := fun _ h => h)

/-! ## The result's array -/

/-- The result as the region leaves it: a column a row. -/
def cols (c : Dev nD) : S10x10000.Idx → EReal := fun i => row m c (i 1) (i 0)

/-- The result's blocks cover its array. -/
theorem covers_10 : win0_10.Covers := by decide +kernel

/-- Where the block at a point places its columns. -/
theorem emb_at (t : Fin cfg0.N) (y : (win0_10.xblock (grid0.coords t)).Idx) :
    ((((win0_10.blk t).view.emb y : S10x10000.Idx) 0).val = (y 0).val) ∧ (((win0_10.blk t).view.emb y : S10x10000.Idx) 1).val = t.val * 128 + (y 1).val := by
  constructor
  · blk_simp [ix_10]
  · blk_simp [ix_10]

/-- A row's entry is the column's entry at an index with the same coordinates. -/
theorem cols_of (c : Dev nD) (i : S10x10000.Idx) (n : Fin 10000) (o : Fin 10) (h0 : (i 0).val = o.val) (h1 : (i 1).val = n.val) :
    row m c n o = cols m c i := by
  have e0 : o = i 0 := Fin.ext h0.symm
  have e1 : n = i 1 := Fin.ext h1.symm
  rw [e0, e1]; rfl

/-- The result as the region leaves it holds the rows, a column each. -/
theorem final_cols (c : Dev nD) : (dats m 0 c).arrAt 10 cfg0.N = cols m c :=
  (dats m 0 c).arrAt_eq_of_covers 10 (cols m c) covers_10 fun t _ y =>
    (payAt_xinj m c t z0 z1 y (y_lt t y)).trans (cols_of m c _ _ _ (emb_at t y).1 (emb_at t y).2)

/-- The result after the last host line. -/
def res (c : Dev nD) : S10000x10.Idx → EReal := fun i => row m c (i 0) (i 1)

/-- The transposed result holds the rows. -/
theorem tail_res (c : Dev nD) : (Pipeline.afterTail₀ cfgs (dats m) 0 (V0 m) [hostOps1] c main_v0 : S10000x10.Idx → EReal) = res m c := by
  have h : Pipeline.withArrays spec0 c (V0 m c) (fun w => (dats m 0 c).arrAt w cfg0.N) (Proc.devRef .tc main_call0_v33) = cols m c :=
    (Pipeline.withArrays_arr spec0 launch0.win.arr_inj c (V0 m c) _ 10).trans (final_cols m c)
  unfold Pipeline.afterTail₀
  funext i
  idx_vars i
  after_reads_at
  exact congrFun h (ix2 i1 i0)

end Cert.KernelIdeal.Body

end
-- ==== Proof.RiRow.lean ====
/- The reference's result, read at an index: entry `(n, o)` is the layer's row function applied to row `n`. -/
module

public import proofs.«01_k».proof.Proof.Gen.ReferenceIdeal.Run
public import proofs.«01_k».proof.Proof.Rows
public import Idealize.ShloMosaic.Lib.Tactic.CleanTypes

@[expose] public section

set_option maxRecDepth 16384

noncomputable section

namespace Cert.ReferenceIdeal.Row

open Cert.ReferenceIdeal Cert.ReferenceIdeal.Gen Cert.ReferenceIdeal.Value
open Idealize.ShloMosaic
open Cert.Rows

variable (V : Valuation τ sig (Elt Ideal))

/-- A node's features. -/
def X (n : Fin 10000) (f : Fin 128) : EReal := (V (Proc.devRef .tc main_arg0) : S10000x1x128.Idx → EReal) (ix3 n 0 f)
/-- Its neighbours' features. -/
def N (n : Fin 10000) (d : Fin 32) (f : Fin 128) : EReal := (V (Proc.devRef .tc main_arg1) : S10000x1x32x1x128.Idx → EReal) (ix5 n 0 d 0 f)
/-- The first weights. -/
def W (j : Fin 64) (g : Fin 128) : EReal := (V (Proc.devRef .tc main_arg2) : S64x1x128.Idx → EReal) (ix3 j 0 g)
/-- The first bias. -/
def B (j : Fin 64) : EReal := (V (Proc.devRef .tc main_arg3) : S64.Idx → EReal) (ix1 j)
/-- The first scale. -/
def G (c : Fin 4) : EReal := (V (Proc.devRef .tc main_arg4) : S4.Idx → EReal) (ix1 c)
/-- The first shift. -/
def H (c : Fin 4) : EReal := (V (Proc.devRef .tc main_arg5) : S4.Idx → EReal) (ix1 c)
/-- The second weights. -/
def W2 (o : Fin 32) (c : Fin 4) (g : Fin 16) : EReal := (V (Proc.devRef .tc main_arg6) : S32x4x16.Idx → EReal) (ix3 o c g)
/-- The second bias. -/
def B2 (o : Fin 32) : EReal := (V (Proc.devRef .tc main_arg7) : S32.Idx → EReal) (ix1 o)
/-- The second scale. -/
def G2 (o : Fin 32) : EReal := (V (Proc.devRef .tc main_arg8) : S32.Idx → EReal) (ix1 o)
/-- The second shift. -/
def H2 (o : Fin 32) : EReal := (V (Proc.devRef .tc main_arg9) : S32.Idx → EReal) (ix1 o)
/-- The classifier's weights. -/
def WC (o : Fin 10) (k : Fin 32) : EReal := (V (Proc.devRef .tc main_arg10) : S10x32.Idx → EReal) (ix2 o k)
/-- The classifier's bias. -/
def BC (o : Fin 10) : EReal := (V (Proc.devRef .tc main_arg11) : S10.Idx → EReal) (ix1 o)

/-- The first feature-adjacency matrix of a node. -/
def C1 (n : Fin 10000) : Fin 128 → Fin 128 → EReal := cr (X V n) (nsum (N V n))
/-- A feature row of a node through the first half of the layer. -/
def F1 (n : Fin 10000) (y : Fin 128 → EReal) : Fin 4 → Fin 16 → EReal := feat (adj (C1 V n)) (W V) (B V) (G V) (H V) y
/-- The second feature-adjacency matrix. -/
def C2 (n : Fin 10000) : Fin 16 → Fin 16 → EReal := cr2 (F1 V n (X V n)) (fun c f => ∑ d, F1 V n (N V n d) c f)

/-- Choosing another value where a value differs from itself chooses nothing. -/
theorem self_ite (a b : EReal) : (if b ≠ b then a else b) = b := if_neg (not_not.mpr rfl)

/-- The neighbours, reshaped. -/
theorem v0_at (n : Fin 10000) (d : Fin 32) (f : Fin 128) : (res_main_v0 (F := Ideal) V : S10000x32x1x128.Idx → EReal) (ix4 n d 0 f) = (N V n d f : EReal) := by
  unfold res_main_v0; clean_types
  pointwise
  rfl

/-- One product of the first matrix. -/
theorem v2_at (n : Fin 10000) (f g : Fin 128) : (res_main_v2 (F := Ideal) V : S10000x128x128.Idx → EReal) (ix3 n f g) = (X V n f * nsum (N V n) g : EReal) := by
  unfold res_main_v2; clean_types
  pointwise
  simp only [Fin.sum_univ_one, v0_at]
  rfl

/-- The first matrix. -/
theorem v4_at (n : Fin 10000) (f g : Fin 128) : (res_main_v4 (F := Ideal) V : S10000x128x128.Idx → EReal) (ix3 n f g) = (C1 V n f g : EReal) := by
  unfold res_main_v4; clean_types
  pointwise
  simp only [v2_at]
  rfl

/-- Its root. -/
theorem v8_at (n : Fin 10000) (f g : Fin 128) : (res_main_v8 (F := Ideal) V : S10000x128x128.Idx → EReal) (ix3 n f g) = (root (C1 V n f g) : EReal) := by
  unfold res_main_v8; clean_types
  pointwise
  simp only [v4_at]
  rfl

/-- The normalized root. -/
theorem v15_at (n : Fin 10000) (f g : Fin 128) : (res_main_v15 (F := Ideal) V : S10000x128x128.Idx → EReal) (ix3 n f g) = (adj (C1 V n) f g : EReal) := by
  unfold res_main_v15; clean_types
  pointwise
  simp only [v8_at]
  rfl

/-- The same. -/
theorem v17_at (n : Fin 10000) (f g : Fin 128) : (res_main_v17 (F := Ideal) V : S10000x128x128.Idx → EReal) (ix3 n f g) = (adj (C1 V n) f g : EReal) := by
  unfold res_main_v17; clean_types
  pointwise
  simp only [v15_at, self_ite]

/-- The node's own row before softsign. -/
theorem v41_at (n : Fin 10000) (c : Fin 4) (f : Fin 16) : (res_main_v41 (F := Ideal) V : S10000x4x16.Idx → EReal) (ix3 n c f) = (Ideal.div (∑ g, (∑ e, X V n e * adj (C1 V n) e g) * W V (cf c f) g + B V (cf c f)) sq * G V c + H V c : EReal) := by
  unfold res_main_v41; clean_types
  pointwise
  simp only [Fin.sum_univ_one, v17_at]
  rfl

/-- The node's own first features. -/
theorem v45_at (n : Fin 10000) (c : Fin 4) (f : Fin 16) : (res_main_v45 (F := Ideal) V : S10000x4x16.Idx → EReal) (ix3 n c f) = (F1 V n (X V n) c f : EReal) := by
  unfold res_main_v45; clean_types
  pointwise
  simp only [v41_at]
  rfl

/-- A neighbour's row before softsign. -/
theorem v57_at (n : Fin 10000) (d : Fin 32) (c : Fin 4) (f : Fin 16) : (res_main_v57 (F := Ideal) V : S10000x32x4x16.Idx → EReal) (ix4 n d c f) = (Ideal.div (∑ g, (∑ e, N V n d e * adj (C1 V n) e g) * W V (cf c f) g + B V (cf c f)) sq * G V c + H V c : EReal) := by
  unfold res_main_v57; clean_types
  pointwise
  simp only [Fin.sum_univ_one, v0_at, v17_at]
  rfl

/-- One product of the second matrix. -/
theorem v63_at (n : Fin 10000) (f g : Fin 16) : (res_main_v63 (F := Ideal) V : S10000x16x16.Idx → EReal) (ix3 n f g) = (∑ c, F1 V n (X V n) c f * ∑ d, F1 V n (N V n d) c g : EReal) := by
  unfold res_main_v63; clean_types
  pointwise
  simp only [v45_at, v57_at]
  rfl

/-- The second matrix. -/
theorem v65_at (n : Fin 10000) (f g : Fin 16) : (res_main_v65 (F := Ideal) V : S10000x16x16.Idx → EReal) (ix3 n f g) = (C2 V n f g : EReal) := by
  unfold res_main_v65; clean_types
  pointwise
  simp only [v63_at]
  rfl

/-- Its root. -/
theorem v69_at (n : Fin 10000) (f g : Fin 16) : (res_main_v69 (F := Ideal) V : S10000x16x16.Idx → EReal) (ix3 n f g) = (root (C2 V n f g) : EReal) := by
  unfold res_main_v69; clean_types
  pointwise
  simp only [v65_at]
  rfl

/-- The normalized root. -/
theorem v76_at (n : Fin 10000) (f g : Fin 16) : (res_main_v76 (F := Ideal) V : S10000x16x16.Idx → EReal) (ix3 n f g) = (adj (C2 V n) f g : EReal) := by
  unfold res_main_v76; clean_types
  pointwise
  simp only [v69_at]
  rfl

/-- The hidden row before softsign. -/
theorem v96_at (n : Fin 10000) (o : Fin 32) : (res_main_v96 (F := Ideal) V : S10000x32x1.Idx → EReal) (ix3 n o 0) = (Ideal.div (∑ c, ∑ g, (∑ e, F1 V n (X V n) c e * adj (C2 V n) e g) * W2 V o c g + B2 V o) sq * G2 V o + H2 V o : EReal) := by
  unfold res_main_v96; clean_types
  pointwise
  simp only [v45_at, v76_at, self_ite]
  rfl

/-- The reference's result, a term of its arguments. -/
def out {F : FTy → Type} [FloatOps F] (V : Valuation τ sig (Elt F)) : (Proc.devRef .tc main_v106 : DevRef τ sig).ty.Contents (Elt F) :=
  addf (Host.dotGeneral dot_S10000x32_S32x10_S10000x10_1_0_0_1_n_n none (shapeCast _ (Host.divf (res_main_v96 V) (addf (broadcastInDim S10000x32x1 ![] bcast_S_S10000x32x1 (constant S_ .f32 0x3F800000#32)) (Host.absf (res_main_v96 V)))) shapeCasts_S10000x32x1_S10000x32) (transpose S32x10 [1, 0] (V (Proc.devRef .tc main_arg10)) transposes_S10x32_S32x10_1_0)) (broadcastInDim S10000x10 ![0, 1] bcast_S1x10_S10000x10_0_1 (broadcastInDim S1x10 ![1] bcast_S10_S1x10_1 (V (Proc.devRef .tc main_arg11))))

/-- The result at an index. -/
theorem out_at (n : Fin 10000) (o : Fin 10) : (out V : S10000x10.Idx → EReal) (ix2 n o)
    = (rrow (X V n) (N V n) (W V) (B V) (G V) (H V) (W2 V) (B2 V) (G2 V) (H2 V) (WC V) (BC V) o : EReal) := by
  unfold out; clean_types
  pointwise
  simp only [v96_at]
  rfl

end Cert.ReferenceIdeal.Row

end
-- ==== Proof.Tame.lean ====
/- What the precondition says, entry by entry: the rows and scales named are finite, and no entry of the two
   feature-adjacency matrices lies strictly between zero and the guard. -/
module

public import proofs.«01_k».proof.Pre_tame
public import proofs.«01_k».proof.Proof.Gen.Pre_tame
public import proofs.«01_k».proof.Proof.RiRow
public import Idealize.ShloMosaic.Lib.ReduceAll
public import Idealize.ShloMosaic.Lib.Affine

@[expose] public section

set_option maxRecDepth 16384

noncomputable section

namespace Cert.Tame

open Idealize.ShloMosaic
open Cert.Rows Cert.Pre_tame

/-- A truth value's word is one when the statement holds. -/
theorem of_word {p : Prop} [Decidable p] (h : BitVec.ofBool (decide p) = 1#1) : p := by
  by_cases hp : p
  · exact hp
  · simp [hp] at h

/-- The word of infinity. -/
theorem inf_word : Ideal.ofBits FTy.f32 0x7F800000#32 = ⊤ := by
  simp [Ideal.ofBits, Ideal.ieee]

/-- A value below infinity in magnitude is a real number. -/
theorem rl_of_word (v : EReal) (h : BitVec.ofBool (decide (FloatOps.absf (F := Ideal) (φ := .f32) v < Ideal.ofBits FTy.f32 0x7F800000#32)) = 1#1) : Rl v :=
  rl_of_ab (lt_of_lt_of_eq (of_word h) inf_word)

/-- The two allowed cases of an entry. -/
theorem or_of_word {p q : Prop} [Decidable p] [Decidable q] (h : IntOp.ori (BitVec.ofBool (decide p)) (BitVec.ofBool (decide q)) = 1#1) : p ∨ q := by
  by_cases hp : p
  · exact .inl hp
  · by_cases hq : q
    · exact .inr hq
    · simp [hp, hq, IntOp.ori] at h

variable [Cert.Pre_tame.Facts]

/-- The last part: the second matrix's entries. -/
theorem part5 (v45 : FVec Ideal S10000x4x16 .f32) (v61 : FVec Ideal S10000x32x4x16 .f32) (v97 : IVec S_ 1)
    (h : fn_part5 (F := Ideal) v45 v61 v97 ix0 = 1#1) :
    v97 ix0 = 1#1 ∧ ∀ (n : Fin 10000) (f g : Fin 16),
      cr2 (fun c f => v45 (ix3 n c f)) (fun c f => ∑ d : Fin 32, (v61 (ix4 n d c f) : EReal)) f g = 0
      ∨ guard ≤ ab (cr2 (fun c f => v45 (ix3 n c f)) (fun c f => ∑ d : Fin 32, (v61 (ix4 n d c f) : EReal)) f g) := by
  dsimp only [fn_part5] at h
  obtain ⟨h0, h1⟩ := IntOp.andi_eq_one.1 h
  refine ⟨h0, fun n f g => ?_⟩
  have := Host.reduce_andi_all _ _ _ _ _ h1 (ix3 n f g)
  clear h h0 h1
  pointwise at this
  exact or_of_word this

/-- The part before: the first matrix's entries and the last scale. -/
theorem part4 (x : FVec Ideal S10000x1x128 .f32) (ga2 : FVec Ideal S32 .f32) (v0 : FVec Ideal S10000x32x1x128 .f32)
    (v45 : FVec Ideal S10000x4x16 .f32) (v61 : FVec Ideal S10000x32x4x16 .f32) (v75 v79 : IVec S_ 1)
    (h : fn_part4 (F := Ideal) x ga2 v0 v45 v61 v75 v79 ix0 = 1#1) :
    v75 ix0 = 1#1 ∧ v79 ix0 = 1#1 ∧ (∀ o : Fin 32, Rl (ga2 (ix1 o)))
    ∧ (∀ (n : Fin 10000) (f g : Fin 128),
      cr (fun f => x (ix3 n 0 f)) (nsum fun d f => v0 (ix4 n d 0 f)) f g = 0
      ∨ guard ≤ ab (cr (fun f => x (ix3 n 0 f)) (nsum fun d f => v0 (ix4 n d 0 f)) f g))
    ∧ ∀ (n : Fin 10000) (f g : Fin 16),
      cr2 (fun c f => v45 (ix3 n c f)) (fun c f => ∑ d : Fin 32, (v61 (ix4 n d c f) : EReal)) f g = 0
      ∨ guard ≤ ab (cr2 (fun c f => v45 (ix3 n c f)) (fun c f => ∑ d : Fin 32, (v61 (ix4 n d c f) : EReal)) f g) := by
  dsimp only [fn_part4] at h
  obtain ⟨h, h5⟩ := part5 _ _ _ h
  obtain ⟨h, h1⟩ := IntOp.andi_eq_one.1 h
  obtain ⟨h, h2⟩ := IntOp.andi_eq_one.1 h
  obtain ⟨h3, h4⟩ := IntOp.andi_eq_one.1 h
  refine ⟨h3, h4, fun o => ?_, fun n f g => ?_, h5⟩
  · have := Host.reduce_andi_all _ _ _ _ _ h2 (ix1 o)
    clear h h1 h2 h3 h4 h5
    pointwise at this
    exact rl_of_word _ this
  · have := Host.reduce_andi_all _ _ _ _ _ h1 (ix3 n f g)
    clear h h1 h2 h3 h4 h5
    pointwise at this
    simp only [Fin.sum_univ_one] at this
    exact or_of_word this

/-- And the finite arguments. -/
theorem part3 (x : FVec Ideal S10000x1x128 .f32) (nb : FVec Ideal S10000x1x32x1x128 .f32) (W : FVec Ideal S64x1x128 .f32) (ga : FVec Ideal S4 .f32)
    (ga2 : FVec Ideal S32 .f32) (v0 : FVec Ideal S10000x32x1x128 .f32)
    (v45 : FVec Ideal S10000x4x16 .f32) (v61 : FVec Ideal S10000x32x4x16 .f32)
    (h : fn_part3 (F := Ideal) x nb W ga ga2 v0 v45 v61 (Host.absf x) (constant S_ .f32 0x7F800000#32) ix0 = 1#1) :
    (∀ n f, Rl (x (ix3 n 0 f))) ∧ (∀ n d f, Rl (nb (ix5 n 0 d 0 f))) ∧ (∀ j g, Rl (W (ix3 j 0 g))) ∧ (∀ c, Rl (ga (ix1 c)))
    ∧ (∀ o : Fin 32, Rl (ga2 (ix1 o)))
    ∧ (∀ (n : Fin 10000) (f g : Fin 128),
      cr (fun f => x (ix3 n 0 f)) (nsum fun d f => v0 (ix4 n d 0 f)) f g = 0
      ∨ guard ≤ ab (cr (fun f => x (ix3 n 0 f)) (nsum fun d f => v0 (ix4 n d 0 f)) f g))
    ∧ ∀ (n : Fin 10000) (f g : Fin 16),
      cr2 (fun c f => v45 (ix3 n c f)) (fun c f => ∑ d : Fin 32, (v61 (ix4 n d c f) : EReal)) f g = 0
      ∨ guard ≤ ab (cr2 (fun c f => v45 (ix3 n c f)) (fun c f => ∑ d : Fin 32, (v61 (ix4 n d c f) : EReal)) f g) := by
  dsimp only [fn_part3] at h
  obtain ⟨h, h4, h5⟩ := part4 _ _ _ _ _ _ _ h
  obtain ⟨h, h3⟩ := IntOp.andi_eq_one.1 h
  obtain ⟨h1, h2⟩ := IntOp.andi_eq_one.1 h
  refine ⟨fun n f => ?_, fun n d f => ?_, fun j g => ?_, fun c => ?_, h5⟩
  · have := Host.reduce_andi_all _ _ _ _ _ h1 (ix3 n 0 f)
    clear h h1 h2 h3 h4 h5
    pointwise at this
    exact rl_of_word _ this
  · have := Host.reduce_andi_all _ _ _ _ _ h2 (ix5 n 0 d 0 f)
    clear h h1 h2 h3 h4 h5
    pointwise at this
    exact rl_of_word _ this
  · have := Host.reduce_andi_all _ _ _ _ _ h3 (ix3 j 0 g)
    clear h h1 h2 h3 h4 h5
    pointwise at this
    exact rl_of_word _ this
  · have := Host.reduce_andi_all _ _ _ _ _ h4 (ix1 c)
    clear h h1 h2 h3 h4 h5
    pointwise at this
    exact rl_of_word _ this

open Cert.ReferenceIdeal Cert.ReferenceIdeal.Row Cert.ReferenceIdeal.Value

variable [Cert.ReferenceIdeal.Facts] (V : Valuation Cert.ReferenceIdeal.τ Cert.ReferenceIdeal.sig (Elt Ideal))

/-- The neighbours' first features, as a whole. -/
def v61 : FVec Ideal Cert.ReferenceIdeal.S10000x32x4x16 .f32 :=
  Host.divf (res_main_v57 (F := Ideal) V) (addf (broadcastInDim _ ![] (by decide) (constant Cert.ReferenceIdeal.S_ .f32 0x3F800000#32)) (Host.absf (res_main_v57 (F := Ideal) V)))

/-- The precondition computes the layer's first half as the layer does. -/
theorem fn_eq : Cert.Pre_tame.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
    = fn_part3 (F := Ideal) (V (Proc.devRef .tc main_arg0)) (V (Proc.devRef .tc main_arg1)) (V (Proc.devRef .tc main_arg2)) (V (Proc.devRef .tc main_arg4)) (V (Proc.devRef .tc main_arg8)) (res_main_v0 (F := Ideal) V) (res_main_v45 (F := Ideal) V) (v61 V) (Host.absf (V (Proc.devRef .tc main_arg0) : FVec Ideal Cert.Pre_tame.S10000x1x128 .f32)) (constant Cert.Pre_tame.S_ .f32 0x7F800000#32) := by
  rfl

/-- Its entries. -/
theorem v61_at (n : Fin 10000) (d : Fin 32) (c : Fin 4) (f : Fin 16) : (v61 V (ix4 n d c f) : EReal) = F1 V n (N V n d) c f := by
  unfold v61; clean_types
  pointwise
  simp only [v57_at]
  rfl

/-- Under the precondition the arguments named are finite and neither matrix has an entry strictly between zero and the guard. -/
theorem facts_of (h : Cert.Pre_tame.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) = fun _ => 1#1) :
    (∀ n f, Rl (X V n f)) ∧ (∀ n d f, Rl (N V n d f)) ∧ (∀ j g, Rl (W V j g)) ∧ (∀ c, Rl (G V c)) ∧ (∀ o, Rl (G2 V o))
    ∧ (∀ n f g, C1 V n f g = 0 ∨ guard ≤ ab (C1 V n f g)) ∧ ∀ n f g, C2 V n f g = 0 ∨ guard ≤ ab (C2 V n f g) := by
  obtain ⟨hx, hn, hW, hG, hG2, h1, h2⟩ := part3 _ _ _ _ _ _ _ _ (congrFun ((fn_eq V).symm.trans h) ix0)
  refine ⟨hx, hn, hW, hG, hG2, fun n f g => ?_, fun n f g => ?_⟩
  · have e : (fun d f => res_main_v0 (F := Ideal) V (ix4 n d 0 f)) = N V n := by
      funext d f; exact v0_at V n d f
    have := h1 n f g
    rw [e] at this
    exact this
  · have e1 : (fun c f => res_main_v45 (F := Ideal) V (ix3 n c f)) = F1 V n (X V n) := by
      funext c f; exact v45_at V n c f
    have e2 : (fun c f => ∑ d : Fin 32, (v61 V (ix4 n d c f) : EReal)) = fun c f => ∑ d, F1 V n (N V n d) c f := by
      funext c f; exact Finset.sum_congr rfl fun d _ => v61_at V n d c f
    have := h2 n f g
    rw [e1, e2] at this
    exact this

/-- Under the precondition the layer's result is the kernel's row, of the same arguments. -/
theorem out_row (h : Cert.Pre_tame.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) = fun _ => 1#1) (n : Fin 10000) (o : Fin 10) :
    (out V : Cert.ReferenceIdeal.S10000x10.Idx → EReal) (ix2 n o)
      = krow (X V n) (N V n) (fun g j => W V j g) (fun j => G V (ch j) * inv) (fun j => B V j * inv * G V (ch j) + H V (ch j))
          (fun o k => W2 V o (ch k) (fe k)) (fun o => G2 V o * inv) (fun o => B2 V o * inv * G2 V o + H2 V o) (WC V) (BC V) o := by
  obtain ⟨hx, hn, hW, hG, hG2, h1, h2⟩ := facts_of V h
  exact (out_at V n o).trans (krow_eq (X V n) (N V n) (W V) (B V) (G V) (H V) (W2 V) (B2 V) (G2 V) (H2 V) (WC V) (BC V)
    (hx n) (hn n) hW hG hG2 (h1 n) (h2 n) o).symm

end Cert.Tame

end
-- ==== Proof.Algebra.lean ====
/- The kernel's result and the layer's, of the same arguments. -/
module

public import proofs.«01_k».proof.Defs
public import proofs.«01_k».proof.Proof.KiValue
public import proofs.«01_k».proof.Proof.Tame
public import proofs.«01_k».proof.Proof.Gen.ReferenceIdeal.Run

@[expose] public section

set_option maxRecDepth 16384

noncomputable section

namespace Cert.KernelIdeal.Body

open Idealize.ShloMosaic Idealize.SL.Sem
open Cert.KernelIdeal Cert.KernelIdeal.Gen

variable (m : (ℓ : Loc nD τ sig) → Buf (Elt Ideal) ℓ) (ρ : Dev nD → PrngReg)

/-- The kernel's run: its result holds the rows, and its arguments what they held. -/
theorem run_result : θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ ⟨h, _⟩ c => ⟨(h.rest_eq c main_v0 (Pipeline.mem_restRefs_of main_v0 (by decide) (by decide))).trans (tail_res m c),
      (h.rest_eq c main_arg0 (Pipeline.mem_restRefs_of main_arg0 (by decide) (by decide))).trans (W_main_arg0 m (dats m) c),
      (h.rest_eq c main_arg1 (Pipeline.mem_restRefs_of main_arg1 (by decide) (by decide))).trans (W_main_arg1 m (dats m) c),
      (h.rest_eq c main_arg2 (Pipeline.mem_restRefs_of main_arg2 (by decide) (by decide))).trans (W_main_arg2 m (dats m) c),
      (h.rest_eq c main_arg3 (Pipeline.mem_restRefs_of main_arg3 (by decide) (by decide))).trans (W_main_arg3 m (dats m) c),
      (h.rest_eq c main_arg4 (Pipeline.mem_restRefs_of main_arg4 (by decide) (by decide))).trans (W_main_arg4 m (dats m) c),
      (h.rest_eq c main_arg5 (Pipeline.mem_restRefs_of main_arg5 (by decide) (by decide))).trans (W_main_arg5 m (dats m) c),
      (h.rest_eq c main_arg6 (Pipeline.mem_restRefs_of main_arg6 (by decide) (by decide))).trans (W_main_arg6 m (dats m) c),
      (h.rest_eq c main_arg7 (Pipeline.mem_restRefs_of main_arg7 (by decide) (by decide))).trans (W_main_arg7 m (dats m) c),
      (h.rest_eq c main_arg8 (Pipeline.mem_restRefs_of main_arg8 (by decide) (by decide))).trans (W_main_arg8 m (dats m) c),
      (h.rest_eq c main_arg9 (Pipeline.mem_restRefs_of main_arg9 (by decide) (by decide))).trans (W_main_arg9 m (dats m) c),
      (h.in_eq c 8 rfl).trans (V_main_arg10 m c),
      (h.rest_eq c main_arg11 (Pipeline.mem_restRefs_of main_arg11 (by decide) (by decide))).trans (W_main_arg11 m (dats m) c)⟩) (run_value m ρ)

end Cert.KernelIdeal.Body

namespace Cert.Tie

open Idealize.ShloMosaic Idealize.ShloMosaic.StableHlo Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Of equal arguments that meet the precondition the layer's result is the kernel's. -/
theorem result_eq [hPre_tame : Cert.Pre_tame.Facts] [Cert.ReferenceIdeal.Facts] (c : Dev Cert.KernelIdeal.nD) (hp : Cert.Pre_KernelIdeal_tame m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Row.out (launchContents m' c) : Cert.ReferenceIdeal.S10000x10.Idx → EReal) = Cert.KernelIdeal.Body.res m c := by
  obtain ⟨h0, h1, h2, h3, h4, h5, h6, h7, h8, h9, h10, h11⟩ := h
  have hp' := hp c
  rw [← h0, ← h1, ← h2, ← h3, ← h4, ← h5, ← h6, ← h7, ← h8, ← h9, ← h10, ← h11] at hp'
  have e0 : Cert.ReferenceIdeal.Row.X (launchContents m' c) = Cert.KernelIdeal.Arg.X m c := by unfold Cert.ReferenceIdeal.Row.X Cert.KernelIdeal.Arg.X; rw [show launchContents m' c (Proc.devRef .tc Cert.ReferenceIdeal.main_arg0) = _ from h0]
  have e1 : Cert.ReferenceIdeal.Row.N (launchContents m' c) = Cert.KernelIdeal.Arg.N m c := by unfold Cert.ReferenceIdeal.Row.N Cert.KernelIdeal.Arg.N; rw [show launchContents m' c (Proc.devRef .tc Cert.ReferenceIdeal.main_arg1) = _ from h1]
  have e2 : Cert.ReferenceIdeal.Row.W (launchContents m' c) = Cert.KernelIdeal.Arg.W m c := by unfold Cert.ReferenceIdeal.Row.W Cert.KernelIdeal.Arg.W; rw [show launchContents m' c (Proc.devRef .tc Cert.ReferenceIdeal.main_arg2) = _ from h2]
  have e3 : Cert.ReferenceIdeal.Row.B (launchContents m' c) = Cert.KernelIdeal.Arg.B m c := by unfold Cert.ReferenceIdeal.Row.B Cert.KernelIdeal.Arg.B; rw [show launchContents m' c (Proc.devRef .tc Cert.ReferenceIdeal.main_arg3) = _ from h3]
  have e4 : Cert.ReferenceIdeal.Row.G (launchContents m' c) = Cert.KernelIdeal.Arg.G m c := by unfold Cert.ReferenceIdeal.Row.G Cert.KernelIdeal.Arg.G; rw [show launchContents m' c (Proc.devRef .tc Cert.ReferenceIdeal.main_arg4) = _ from h4]
  have e5 : Cert.ReferenceIdeal.Row.H (launchContents m' c) = Cert.KernelIdeal.Arg.H m c := by unfold Cert.ReferenceIdeal.Row.H Cert.KernelIdeal.Arg.H; rw [show launchContents m' c (Proc.devRef .tc Cert.ReferenceIdeal.main_arg5) = _ from h5]
  have e6 : Cert.ReferenceIdeal.Row.W2 (launchContents m' c) = Cert.KernelIdeal.Arg.W2 m c := by unfold Cert.ReferenceIdeal.Row.W2 Cert.KernelIdeal.Arg.W2; rw [show launchContents m' c (Proc.devRef .tc Cert.ReferenceIdeal.main_arg6) = _ from h6]
  have e7 : Cert.ReferenceIdeal.Row.B2 (launchContents m' c) = Cert.KernelIdeal.Arg.B2 m c := by unfold Cert.ReferenceIdeal.Row.B2 Cert.KernelIdeal.Arg.B2; rw [show launchContents m' c (Proc.devRef .tc Cert.ReferenceIdeal.main_arg7) = _ from h7]
  have e8 : Cert.ReferenceIdeal.Row.G2 (launchContents m' c) = Cert.KernelIdeal.Arg.G2 m c := by unfold Cert.ReferenceIdeal.Row.G2 Cert.KernelIdeal.Arg.G2; rw [show launchContents m' c (Proc.devRef .tc Cert.ReferenceIdeal.main_arg8) = _ from h8]
  have e9 : Cert.ReferenceIdeal.Row.H2 (launchContents m' c) = Cert.KernelIdeal.Arg.H2 m c := by unfold Cert.ReferenceIdeal.Row.H2 Cert.KernelIdeal.Arg.H2; rw [show launchContents m' c (Proc.devRef .tc Cert.ReferenceIdeal.main_arg9) = _ from h9]
  have e10 : Cert.ReferenceIdeal.Row.WC (launchContents m' c) = Cert.KernelIdeal.Arg.WC m c := by unfold Cert.ReferenceIdeal.Row.WC Cert.KernelIdeal.Arg.WC; rw [show launchContents m' c (Proc.devRef .tc Cert.ReferenceIdeal.main_arg10) = _ from h10]
  have e11 : Cert.ReferenceIdeal.Row.BC (launchContents m' c) = Cert.KernelIdeal.Arg.BC m c := by unfold Cert.ReferenceIdeal.Row.BC Cert.KernelIdeal.Arg.BC; rw [show launchContents m' c (Proc.devRef .tc Cert.ReferenceIdeal.main_arg11) = _ from h11]
  funext i
  idx_vars i
  refine (Cert.Tame.out_row (launchContents m' c) hp' _ _).trans ?_
  rw [e0, e1, e2, e3, e4, e5, e6, e7, e8, e9, e10, e11]
  rfl

/-- The value claim. -/
theorem value [hKernelIdeal : Cert.KernelIdeal.Facts] [hReferenceIdeal : Cert.ReferenceIdeal.Facts] [hPre_tame : Cert.Pre_tame.Facts] :
    Cert.algebraic_KernelIdeal_ReferenceIdeal_pre_tame := fun m g m' g' hp ha =>
  ⟨fun c => Cert.KernelIdeal.Body.res m c, Cert.KernelIdeal.Body.run_result m g,
    (θ_run (Cert.ReferenceIdeal.defs (F := Ideal)) _ _).mono
      (fun _ h c => ⟨((h c).1.trans (show _ = Cert.ReferenceIdeal.Row.out (launchContents m' c) from rfl)).trans (result_eq m m' c hp (ha c)), (h c).2⟩)
      (Cert.ReferenceIdeal.Value.run (F := Ideal) m' g')⟩

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Gen.ReferenceIdeal.Run
public import proofs.«01_k».proof.Proof.KBody
public import proofs.«01_k».proof.Proof.KiBody
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The reference keeps its arguments and leaves every semaphore counter at zero. -/
theorem frame_reference [Cert.ReferenceIdeal.Facts] : Cert.quiescent_ReferenceIdeal := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- The claims. -/
theorem claim : Cert.Claim := ⟨Cert.Kernel.Gen.facts, Cert.KernelIdeal.Gen.facts, Cert.ReferenceIdeal.Gen.facts, Cert.Pre_tame.Gen.facts,
  fun m g _ => Cert.Kernel.Body.frame_quiet m g,
  fun m g _ => Cert.KernelIdeal.Body.frame_quiet m g,
  fun m g _ => Cert.KernelIdeal.Body.frame_quiet m g,
  frame_reference,
  fun m g _ => frame_reference m g trivial,
  trivial,
  Cert.Tie.value⟩

end Cert.Proof

end
